-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "mask" .f32 0xFF7F0000#32 ⊥
  ∧ IdealRules.named_const.Statement Cert.KernelIdeal.κ "slope" .bf16 0x3E4D#16 ((13421773 / 67108864 : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_1)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8_1) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_tame : Cert.Pre_tame.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_ids_in_range.lean ====
abbrev S256x128 : Shape := ⟨2, ![256, 128]⟩
abbrev S100000x128 : Shape := ⟨2, ![100000, 128]⟩
abbrev S100000 : Shape := ⟨1, ![100000]⟩
abbrev S128x128 : Shape := ⟨2, ![128, 128]⟩
abbrev S128 : Shape := ⟨1, ![128]⟩
abbrev S256x1 : Shape := ⟨2, ![256, 1]⟩
abbrev S1 : Shape := ⟨1, ![1]⟩
abbrev S_ : Shape := ⟨0, ![]⟩

class Facts : Prop where
  bcast_S_S100000 : S_.BroadcastsInDim S100000 (![] : Fin 0 → Fin S100000.rank)

variable [Facts]

def fn {F : FTy → Type} [FloatOps F] (main_arg0 : FVec F S256x128 .f32) (main_arg1 : FVec F S100000x128 .f32) (main_arg2 : IVec S100000 32) (main_arg3 : FVec F S128x128 .f32) (main_arg4 : FVec F S128 .f32) (main_arg5 : FVec F S256x1 .f32) (main_arg6 : FVec F S1 .f32) : IVec S100000 1 :=
  let main_c : IVec S_ 32 := constantI S_ 32 0#32
  let main_v0 : IVec S100000 32 := broadcastInDim S100000 ![] bcast_S_S100000 main_c
  let main_v1 : IVec S100000 1 := cmpi .sge main_arg2 main_v0
  let main_c_0 : IVec S_ 32 := constantI S_ 32 256#32
  let main_v2 : IVec S100000 32 := broadcastInDim S100000 ![] bcast_S_S100000 main_c_0
  let main_v3 : IVec S100000 1 := cmpi .slt main_arg2 main_v2
  let main_v4 : IVec S100000 1 := andi main_v1 main_v3
  main_v4
-- ==== Pre_tame.lean ====
abbrev S256x128 : Shape := ⟨2, ![256, 128]⟩
abbrev S100000x128 : Shape := ⟨2, ![100000, 128]⟩
abbrev S100000 : Shape := ⟨1, ![100000]⟩
abbrev S128x128 : Shape := ⟨2, ![128, 128]⟩
abbrev S128 : Shape := ⟨1, ![128]⟩
abbrev S256x1 : Shape := ⟨2, ![256, 1]⟩
abbrev S1 : Shape := ⟨1, ![1]⟩
abbrev S128x1 : Shape := ⟨2, ![128, 1]⟩
abbrev S100000x1 : Shape := ⟨2, ![100000, 1]⟩
abbrev S1x1 : Shape := ⟨2, ![1, 1]⟩
abbrev S_ : Shape := ⟨0, ![]⟩
abbrev S1x100000 : Shape := ⟨2, ![1, 100000]⟩
abbrev S256x100000 : Shape := ⟨2, ![256, 100000]⟩
abbrev S256 : Shape := ⟨1, ![256]⟩

class Facts : Prop where
  slices_S256x1_S128x1_128_0 : S256x1.Slices ![128, 0] S128x1
  slices_S256x1_S128x1_0_0 : S256x1.Slices ![0, 0] S128x1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S100000x1_S_d0_1 : S100000x1.ReducesTo [0, 1] S_
  h_S_ : 0 < S_.numel
  bcast_S_S100000x1 : S_.BroadcastsInDim S100000x1 (![] : Fin 0 → Fin S100000x1.rank)
  bcast_S100000_S1x100000_1 : S100000.BroadcastsInDim S1x100000 (![1] : Fin 1 → Fin S1x100000.rank)
  bcast_S1x100000_S256x100000_0_1 : S1x100000.BroadcastsInDim S256x100000 (![0, 1] : Fin 2 → Fin S256x100000.rank)
  shapeCasts_S100000x1_S100000 : S100000x1.ShapeCasts S100000
  bcast_S_S256x100000 : S_.BroadcastsInDim S256x100000 (![] : Fin 0 → Fin S256x100000.rank)
  reducesTo_S256x100000_S256_d1 : S256x100000.ReducesTo [1] S256
  bcast_S_S100000 : S_.BroadcastsInDim S100000 (![] : Fin 0 → Fin S100000.rank)
  reducesTo_S100000_S_d0 : S100000.ReducesTo [0] S_
  bcast_S_S256x1 : S_.BroadcastsInDim S256x1 (![] : Fin 0 → Fin S256x1.rank)
  reducesTo_S256x1_S_d0_1 : S256x1.ReducesTo [0, 1] S_
  bcast_S_S256 : S_.BroadcastsInDim S256 (![] : Fin 0 → Fin S256.rank)
  reducesTo_S256_S_d0 : S256.ReducesTo [0] S_
  dot_S100000x128_S128x1_S100000x1_1_0_0_1_n_n_wf : DotDims.WF S100000x128 S128x1 S100000x1 [1] [0] [0] [1] [] []
  dot_S256x128_S128x1_S256x1_1_0_0_1_n_n_wf : DotDims.WF S256x128 S128x1 S256x1 [1] [0] [0] [1] [] []

variable [Facts]

def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf
def fn_where {F : FTy → Type} [FloatOps F] (arg0 : IVec S256x100000 1) (arg1 : FVec F S1x100000 .f32) (arg2 : FVec F S_ .f32) : FVec F S256x100000 .f32 :=
  let v0 : FVec F S_ .f32 := id arg2
  let v1 : FVec F S256x100000 .f32 := broadcastInDim S256x100000 ![0, 1] bcast_S1x100000_S256x100000_0_1 arg1
  let v2 : FVec F S256x100000 .f32 := broadcastInDim S256x100000 ![] bcast_S_S256x100000 v0
  let v3 : FVec F S256x100000 .f32 := select arg0 v1 v2
  v3

def fn_part2 {F : FTy → Type} [FloatOps F] (main_v18 : FVec F S256 .f32) (main_v34 : IVec S_ 1) (main_v36 : IVec S256 1) : IVec S_ 1 :=
  let main_cst_9 : FVec F S_ .f32 := constant S_ .f32 0x2B8CBCCC#32
  let main_v37 : FVec F S256 .f32 := broadcastInDim S256 ![] bcast_S_S256 main_cst_9
  let main_v38 : IVec S256 1 := cmpf .oge main_v18 main_v37
  let main_v39 : IVec S256 1 := ori main_v36 main_v38
  let main_c_10 : IVec S_ 1 := constantI S_ 1 1#1
  let main_v40 : IVec S_ 1 := (fun x v => Host.reduce IntOp.andi x v reducesTo_S256_S_d0 h_S_) main_v39 main_c_10
  let main_v41 : IVec S_ 1 := andi main_v34 main_v40
  main_v41

def fn_part1 {F : FTy → Type} [FloatOps F] (main_arg2 : IVec S100000 32) (main_v1 : FVec F S100000x1 .f32) (main_v6 : FVec F S256x1 .f32) (main_v18 : FVec F S256 .f32) (main_v19 : IVec S100000 32) : IVec S_ 1 :=
  let main_v20 : IVec S100000 1 := cmpi .sge main_arg2 main_v19
  let main_c_2 : IVec S_ 32 := constantI S_ 32 256#32
  let main_v21 : IVec S100000 32 := broadcastInDim S100000 ![] bcast_S_S100000 main_c_2
  let main_v22 : IVec S100000 1 := cmpi .slt main_arg2 main_v21
  let main_v23 : IVec S100000 1 := andi main_v20 main_v22
  let main_c_3 : IVec S_ 1 := constantI S_ 1 1#1
  let main_v24 : IVec S_ 1 := (fun x v => Host.reduce IntOp.andi x v reducesTo_S100000_S_d0 h_S_) main_v23 main_c_3
  let main_v25 : FVec F S100000x1 .f32 := Host.absf main_v1
  let main_cst_4 : FVec F S_ .f32 := constant S_ .f32 0x7F800000#32
  let main_v26 : FVec F S100000x1 .f32 := broadcastInDim S100000x1 ![] bcast_S_S100000x1 main_cst_4
  let main_v27 : IVec S100000x1 1 := cmpf .olt main_v25 main_v26
  let main_c_5 : IVec S_ 1 := constantI S_ 1 1#1
  let main_v28 : IVec S_ 1 := (fun x v => Host.reduce IntOp.andi x v reducesTo_S100000x1_S_d0_1 h_S_) main_v27 main_c_5
  let main_v29 : IVec S_ 1 := andi main_v24 main_v28
  let main_v30 : FVec F S256x1 .f32 := Host.absf main_v6
  let main_cst_6 : FVec F S_ .f32 := constant S_ .f32 0x7F800000#32
  let main_v31 : FVec F S256x1 .f32 := broadcastInDim S256x1 ![] bcast_S_S256x1 main_cst_6
  let main_v32 : IVec S256x1 1 := cmpf .olt main_v30 main_v31
  let main_c_7 : IVec S_ 1 := constantI S_ 1 1#1
  let main_v33 : IVec S_ 1 := (fun x v => Host.reduce IntOp.andi x v reducesTo_S256x1_S_d0_1 h_S_) main_v32 main_c_7
  let main_v34 : IVec S_ 1 := andi main_v29 main_v33
  let main_cst_8 : FVec F S_ .f32 := constant S_ .f32 0x00000000#32
  let main_v35 : FVec F S256 .f32 := broadcastInDim S256 ![] bcast_S_S256 main_cst_8
  let main_v36 : IVec S256 1 := cmpf .ole main_v18 main_v35
  fn_part2 (F := F) main_v18 main_v34 main_v36

def fn {F : FTy → Type} [FloatOps F] (main_arg0 : FVec F S256x128 .f32) (main_arg1 : FVec F S100000x128 .f32) (main_arg2 : IVec S100000 32) (main_arg3 : FVec F S128x128 .f32) (main_arg4 : FVec F S128 .f32) (main_arg5 : FVec F S256x1 .f32) (main_arg6 : FVec F S1 .f32) : IVec S_ 1 :=
  let main_v0 : FVec F S128x1 .f32 := (extractStridedSlice S128x1 ![128, 0] · slices_S256x1_S128x1_128_0) main_arg5
  let main_v1 : FVec F S100000x1 .f32 := (fun l r => Host.dotGeneral dot_S100000x128_S128x1_S100000x1_1_0_0_1_n_n none l r) main_arg1 main_v0
  let main_v2 : FVec F S128x1 .f32 := (extractStridedSlice S128x1 ![0, 0] · slices_S256x1_S128x1_0_0) main_arg5
  let main_v3 : FVec F S256x1 .f32 := (fun l r => Host.dotGeneral dot_S256x128_S128x1_S256x1_1_0_0_1_n_n none l r) main_arg0 main_v2
  let main_v4 : FVec F S1x1 .f32 := broadcastInDim S1x1 ![1] bcast_S1_S1x1_1 main_arg6
  let main_v5 : FVec F S256x1 .f32 := broadcastInDim S256x1 ![0, 1] bcast_S1x1_S256x1_0_1 main_v4
  let main_v6 : FVec F S256x1 .f32 := addf main_v3 main_v5
  let main_cst : FVec F S_ .f32 := constant S_ .f32 0xFF800000#32
  let main_v7 : FVec F S_ .f32 := (fun x v => Host.reduce FloatOps.maximumf x v reducesTo_S100000x1_S_d0_1 h_S_) main_v1 main_cst
  let main_v8 : FVec F S100000x1 .f32 := broadcastInDim S100000x1 ![] bcast_S_S100000x1 main_v7
  let main_v9 : FVec F S100000x1 .f32 := subf main_v1 main_v8
  let main_v10 : FVec F S100000x1 .f32 := Host.exp main_v9
  let main_v11 : IVec S1x100000 32 := broadcastInDim S1x100000 ![1] bcast_S100000_S1x100000_1 main_arg2
  let main_v12 : IVec S256x100000 32 := iotaInDim S256x100000 32 0
  let main_v13 : IVec S256x100000 32 := broadcastInDim S256x100000 ![0, 1] bcast_S1x100000_S256x100000_0_1 main_v11
  let main_v14 : IVec S256x100000 1 := cmpi .eq main_v13 main_v12
  let main_v15 : FVec F S100000 .f32 := shapeCast S100000 main_v10 shapeCasts_S100000x1_S100000
  let main_v16 : FVec F S1x100000 .f32 := broadcastInDim S1x100000 ![1] bcast_S100000_S1x100000_1 main_v15
  let main_cst_0 : FVec F S_ .f32 := constant S_ .f32 0x00000000#32
  let main_v17 : FVec F S256x100000 .f32 := fn_where (F := F) main_v14 main_v16 main_cst_0
  let main_cst_1 : FVec F S_ .f32 := constant S_ .f32 0x00000000#32
  let main_v18 : FVec F S256 .f32 := (fun x v => Host.reduceAdd x v reducesTo_S256x100000_S256_d1 h_S_) main_v17 main_cst_1
  let main_c : IVec S_ 32 := constantI S_ 32 0#32
  let main_v19 : IVec S100000 32 := broadcastInDim S100000 ![] bcast_S_S100000 main_c
  fn_part1 (F := F) main_arg2 main_v1 main_v6 main_v18 main_v19
-- ==== Kernel.lean ====
abbrev S256x128 : Shape := ⟨2, ![256, 128]⟩
abbrev S100000x128 : Shape := ⟨2, ![100000, 128]⟩
abbrev S100000 : Shape := ⟨1, ![100000]⟩
abbrev S128x128 : Shape := ⟨2, ![128, 128]⟩
abbrev S128 : Shape := ⟨1, ![128]⟩
abbrev S256x1 : Shape := ⟨2, ![256, 1]⟩
abbrev S1 : Shape := ⟨1, ![1]⟩
abbrev S10x1x10000 : Shape := ⟨3, ![10, 1, 10000]⟩
abbrev S128x1 : Shape := ⟨2, ![128, 1]⟩
abbrev S1x128 : Shape := ⟨2, ![1, 128]⟩
abbrev S1x1 : Shape := ⟨2, ![1, 1]⟩
abbrev S10000x128 : Shape := ⟨2, ![10000, 128]⟩
abbrev S1x1x10000 : Shape := ⟨3, ![1, 1, 10000]⟩
abbrev S1x10000 : Shape := ⟨2, ![1, 10000]⟩
abbrev S256x10000 : Shape := ⟨2, ![256, 10000]⟩
abbrev S10000x1 : Shape := ⟨2, ![10000, 1]⟩
abbrev S256 : Shape := ⟨1, ![256]⟩
abbrev S3136 : Shape := ⟨1, ![3136]⟩
abbrev S_ : Shape := ⟨0, ![]⟩
abbrev S2784 : Shape := ⟨1, ![2784]⟩
abbrev S16 : Shape := ⟨1, ![16]⟩
abbrev S100000x1 : Shape := ⟨2, ![100000, 1]⟩

abbrev nBuf : Table → Nat
  | .hbm => 22
  | .local .tc .vmem => 16
  | .local .scVector .vmem => 4
  | _ => 0

abbrev bufTy : (tb : Table) → Fin (nBuf tb) → BufTy
  | .hbm, ⟨0, _⟩ => ⟨S256x128, .f32⟩
  | .hbm, ⟨1, _⟩ => ⟨S100000x128, .f32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S256x1, .f32⟩
  | .hbm, ⟨6, _⟩ => ⟨S1, .f32⟩
  | .hbm, ⟨7, _⟩ => ⟨S10x1x10000, .i32⟩
  | .hbm, ⟨8, _⟩ => ⟨S128x1, .f32⟩
  | .hbm, ⟨9, _⟩ => ⟨S128x1, .f32⟩
  | .hbm, ⟨10, _⟩ => ⟨S128x1, .bf16⟩
  | .hbm, ⟨11, _⟩ => ⟨S1x128, .f32⟩
  | .hbm, ⟨12, _⟩ => ⟨S1x128, .bf16⟩
  | .hbm, ⟨13, _⟩ => ⟨S1x1, .f32⟩
  | .hbm, ⟨14, _⟩ => ⟨S128x128, .bf16⟩
  | .hbm, ⟨15, _⟩ => ⟨S10x1x10000, .f32⟩
  | .hbm, ⟨16, _⟩ => ⟨S256x128, .f32⟩
  | .hbm, ⟨17, _⟩ => ⟨S256x1, .f32⟩
  | .hbm, ⟨18, _⟩ => ⟨S100000, .f32⟩
  | .hbm, ⟨19, _⟩ => ⟨S256, .f32⟩
  | .hbm, ⟨20, _⟩ => ⟨S100000, .f32⟩
  | .hbm, ⟨21, _⟩ => ⟨S100000x1, .f32⟩
  | .local .tc .vmem, ⟨0, _⟩ => ⟨S10000x128, .f32⟩
  | .local .tc .vmem, ⟨1, _⟩ => ⟨S10000x128, .f32⟩
  | .local .tc .vmem, ⟨2, _⟩ => ⟨S1x1x10000, .i32⟩
  | .local .tc .vmem, ⟨3, _⟩ => ⟨S1x1x10000, .i32⟩
  | .local .tc .vmem, ⟨4, _⟩ => ⟨S256x128, .f32⟩
  | .local .tc .vmem, ⟨5, _⟩ => ⟨S128x128, .bf16⟩
  | .local .tc .vmem, ⟨6, _⟩ => ⟨S128x1, .f32⟩
  | .local .tc .vmem, ⟨7, _⟩ => ⟨S128x1, .bf16⟩
  | .local .tc .vmem, ⟨8, _⟩ => ⟨S1x128, .bf16⟩
  | .local .tc .vmem, ⟨9, _⟩ => ⟨S1x1, .f32⟩
  | .local .tc .vmem, ⟨10, _⟩ => ⟨S1x1x10000, .f32⟩
  | .local .tc .vmem, ⟨11, _⟩ => ⟨S1x1x10000, .f32⟩
  | .local .tc .vmem, ⟨12, _⟩ => ⟨S256x128, .f32⟩
  | .local .tc .vmem, ⟨13, _⟩ => ⟨S256x1, .f32⟩
  | .local .tc .vmem, ⟨14, _⟩ => ⟨S256x1, .f32⟩
  | .local .tc .vmem, ⟨15, _⟩ => ⟨S256x1, .f32⟩
  | .local .scVector .vmem, ⟨0, _⟩ => ⟨S3136, .f32⟩
  | .local .scVector .vmem, ⟨1, _⟩ => ⟨S3136, .i32⟩
  | .local .scVector .vmem, ⟨2, _⟩ => ⟨S256, .f32⟩
  | .local .scVector .vmem, ⟨3, _⟩ => ⟨S3136, .f32⟩
  | _, _ => ⟨S256x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | ⟨17, _⟩ => false
  | ⟨18, _⟩ => false
  | ⟨19, _⟩ => false
  | ⟨20, _⟩ => false
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v9_scv : Ref sig .scVector := ⟨.hbm, 18, rfl⟩
abbrev main_arg2_scv : Ref sig .scVector := ⟨.hbm, 2, rfl⟩
abbrev main_v10_scv : Ref sig .scVector := ⟨.hbm, 19, rfl⟩
abbrev main_v11_scv : Ref sig .scVector := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x10000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x10000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v3 : BitVec 1 := Scalar.cmpi .slt v1 c31_i32
  let v4 : BitVec 32 := Scalar.extui v3
  let c0_i32 : BitVec 32 := 0#32
  let v5 : BitVec 1 := Scalar.cmpi .ne v4 c0_i32
  v5

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v2 : BitVec 32 := Scalar.muli v1 c3136_i32
  ![v2.toNat]
def k1_cond2 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_0 : BitVec 32 := 31#32
  let v6 : BitVec 1 := Scalar.cmpi .eq v1 c31_i32_0
  let v7 : BitVec 32 := Scalar.extui v6
  let c0_i32_1 : BitVec 32 := 0#32
  let v8 : BitVec 1 := Scalar.cmpi .ne v7 c0_i32_1
  v8

def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v2 : BitVec 32 := Scalar.muli v1 c3136_i32
  ![v2.toNat]
@[reducible] def k1_t1_loop (i : grid1.Coords) : Scf.Loop 32 :=
  let c0_i32_4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_2 : BitVec 32 := 31#32
  let v9 : BitVec 1 := Scalar.cmpi .eq v1 c31_i32_2
  let c174_i32 : BitVec 32 := 174#32
  let c196_i32 : BitVec 32 := 196#32
  let v10 : BitVec 32 := Scalar.select v9 c174_i32 c196_i32
  let v11 : BitVec 32 := Scalar.subi v10 c0_i32_4
  let c1_i32 : BitVec 32 := 1#32
  let v13 : BitVec 32 := Scalar.divsi v11 c1_i32
  let v14 : BitVec 32 := Scalar.muli v13 c1_i32
  let v15 : BitVec 32 := Scalar.addi c0_i32_4 v14
  let c1_i32_5 : BitVec 32 := 1#32
  ⟨c0_i32_4, v15, c1_i32_5⟩
def k1_off3 (i : grid1.Coords) (k1_t1 : Fin (k1_t1_loop i).trips) : Fin 1 → Nat :=
  let c0_i32_4 : BitVec 32 := 0#32
  let c1_i32_5 : BitVec 32 := 1#32
  let arg10 : BitVec 32 := Scf.iv c0_i32_4 c1_i32_5 k1_t1
  let c16_i32 : BitVec 32 := 16#32
  let v22 : BitVec 32 := Scalar.muli arg10 c16_i32
  let v23 : Index := Scalar.indexCast v22
  ![v23.toNat]

def k1_chk1 (v24 : IVec S16 32) : Prop :=
  (∀ a x, ((![v24] : Fin 1 → IVec S16 32) a x).toNat < S256.size a)
theorem k1_idx1_inb : ∀ (v24 : IVec S16 32) (k1_hw1 : k1_chk1 v24), ∀ a x, ((![v24] : Fin 1 → IVec S16 32) a x).toNat < S256.size a := fun v24 k1_hw1 => k1_hw1
def k1_off4 (i : grid1.Coords) (k1_t1 : Fin (k1_t1_loop i).trips) : Fin 1 → Nat :=
  let c0_i32_4 : BitVec 32 := 0#32
  let c1_i32_5 : BitVec 32 := 1#32
  let arg10 : BitVec 32 := Scf.iv c0_i32_4 c1_i32_5 k1_t1
  let c16_i32 : BitVec 32 := 16#32
  let v22 : BitVec 32 := Scalar.muli arg10 c16_i32
  let v26 : Index := Scalar.indexCast v22
  ![v26.toNat]
@[reducible] def k1_t2_loop (i : grid1.Coords) : Scf.Loop 32 :=
  let c0_i32_4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_2 : BitVec 32 := 31#32
  let v9 : BitVec 1 := Scalar.cmpi .eq v1 c31_i32_2
  let c174_i32 : BitVec 32 := 174#32
  let c196_i32 : BitVec 32 := 196#32
  let v10 : BitVec 32 := Scalar.select v9 c174_i32 c196_i32
  let v11 : BitVec 32 := Scalar.subi v10 c0_i32_4
  let c1_i32 : BitVec 32 := 1#32
  let v13 : BitVec 32 := Scalar.divsi v11 c1_i32
  let v14 : BitVec 32 := Scalar.muli v13 c1_i32
  let v15 : BitVec 32 := Scalar.addi c0_i32_4 v14
  let v12 : BitVec 32 := Scalar.addi c0_i32_4 v11
  let c1_i32_6 : BitVec 32 := 1#32
  ⟨v15, v12, c1_i32_6⟩
def k1_off5 (i : grid1.Coords) (k1_t2 : Fin (k1_t2_loop i).trips) : Fin 1 → Nat :=
  let c0_i32_4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_2 : BitVec 32 := 31#32
  let v9 : BitVec 1 := Scalar.cmpi .eq v1 c31_i32_2
  let c174_i32 : BitVec 32 := 174#32
  let c196_i32 : BitVec 32 := 196#32
  let v10 : BitVec 32 := Scalar.select v9 c174_i32 c196_i32
  let v11 : BitVec 32 := Scalar.subi v10 c0_i32_4
  let c1_i32 : BitVec 32 := 1#32
  let v13 : BitVec 32 := Scalar.divsi v11 c1_i32
  let v14 : BitVec 32 := Scalar.muli v13 c1_i32
  let v15 : BitVec 32 := Scalar.addi c0_i32_4 v14
  let c1_i32_6 : BitVec 32 := 1#32
  let arg10 : BitVec 32 := Scf.iv v15 c1_i32_6 k1_t2
  let c16_i32 : BitVec 32 := 16#32
  let v22 : BitVec 32 := Scalar.muli arg10 c16_i32
  let v23 : Index := Scalar.indexCast v22
  ![v23.toNat]

def k1_chk2 (i : grid1.Coords) (k1_t2 : Fin (k1_t2_loop i).trips) (v24 : IVec S16 32) : Prop :=
  (∀ a x, ((![v24] : Fin 1 → IVec S16 32) a x).toNat < S256.size a)
theorem k1_idx2_inb : ∀ (i : grid1.Coords) (k1_t2 : Fin (k1_t2_loop i).trips) (v24 : IVec S16 32) (k1_hw2 : k1_chk2 i k1_t2 v24), ∀ a x, ((![v24] : Fin 1 → IVec S16 32) a x).toNat < S256.size a := fun i k1_t2 v24 k1_hw2 => k1_hw2
def k1_off6 (i : grid1.Coords) (k1_t2 : Fin (k1_t2_loop i).trips) : Fin 1 → Nat :=
  let c0_i32_4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_2 : BitVec 32 := 31#32
  let v9 : BitVec 1 := Scalar.cmpi .eq v1 c31_i32_2
  let c174_i32 : BitVec 32 := 174#32
  let c196_i32 : BitVec 32 := 196#32
  let v10 : BitVec 32 := Scalar.select v9 c174_i32 c196_i32
  let v11 : BitVec 32 := Scalar.subi v10 c0_i32_4
  let c1_i32 : BitVec 32 := 1#32
  let v13 : BitVec 32 := Scalar.divsi v11 c1_i32
  let v14 : BitVec 32 := Scalar.muli v13 c1_i32
  let v15 : BitVec 32 := Scalar.addi c0_i32_4 v14
  let c1_i32_6 : BitVec 32 := 1#32
  let arg10 : BitVec 32 := Scf.iv v15 c1_i32_6 k1_t2
  let c16_i32 : BitVec 32 := 16#32
  let v22 : BitVec 32 := Scalar.muli arg10 c16_i32
  let v26 : Index := Scalar.indexCast v22
  ![v26.toNat]
def k1_cond3 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_7 : BitVec 32 := 31#32
  let v16 : BitVec 1 := Scalar.cmpi .slt v1 c31_i32_7
  let v17 : BitVec 32 := Scalar.extui v16
  let c0_i32_8 : BitVec 32 := 0#32
  let v18 : BitVec 1 := Scalar.cmpi .ne v17 c0_i32_8
  v18

def k1_off7 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v2 : BitVec 32 := Scalar.muli v1 c3136_i32
  ![v2.toNat]
def k1_cond4 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_9 : BitVec 32 := 31#32
  let v19 : BitVec 1 := Scalar.cmpi .eq v1 c31_i32_9
  let v20 : BitVec 32 := Scalar.extui v19
  let c0_i32_10 : BitVec 32 := 0#32
  let v21 : BitVec 1 := Scalar.cmpi .ne v20 c0_i32_10
  v21

def k1_off8 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v2 : BitVec 32 := Scalar.muli v1 c3136_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "mask" => some ⊥
  | "slope" => some ((13421773 / 67108864 : ℝ) : EReal)
  | _ => none
-- ==== ReferenceIdeal.lean ====
abbrev S256x128 : Shape := ⟨2, ![256, 128]⟩
abbrev S100000x128 : Shape := ⟨2, ![100000, 128]⟩
abbrev S100000 : Shape := ⟨1, ![100000]⟩
abbrev S128x128 : Shape := ⟨2, ![128, 128]⟩
abbrev S128 : Shape := ⟨1, ![128]⟩
abbrev S256x1 : Shape := ⟨2, ![256, 1]⟩
abbrev S1 : Shape := ⟨1, ![1]⟩
abbrev S_ : Shape := ⟨0, ![]⟩
abbrev S100000x1 : Shape := ⟨2, ![100000, 1]⟩
abbrev S1x1 : Shape := ⟨2, ![1, 1]⟩
abbrev S1x128 : Shape := ⟨2, ![1, 128]⟩
abbrev S100000x256 : Shape := ⟨2, ![100000, 256]⟩
abbrev S1x100000 : Shape := ⟨2, ![1, 100000]⟩
abbrev S256x100000 : Shape := ⟨2, ![256, 100000]⟩
abbrev S256 : Shape := ⟨1, ![256]⟩

abbrev nBuf : Space → Nat
  | .hbm => 145
  | .vmem => 0
  | .smem => 0
  | _ => 0

abbrev hbmTy0_0 (i : Nat) : BufTy := match i % 128 with
  | 0 => ⟨S256x128, .f32⟩
  | 1 => ⟨S100000x128, .f32⟩
  | 2 => ⟨S100000, .i32⟩
  | 3 => ⟨S128x128, .f32⟩
  | 4 => ⟨S128, .f32⟩
  | 5 => ⟨S256x1, .f32⟩
  | 6 => ⟨S1, .f32⟩
  | 7 => ⟨S_, .i32⟩
  | 8 => ⟨S100000, .i32⟩
  | 9 => ⟨S100000, .i1⟩
  | 10 => ⟨S_, .i32⟩
  | 11 => ⟨S100000, .i32⟩
  | 12 => ⟨S100000, .i32⟩
  | 13 => ⟨S100000, .i32⟩
  | 14 => ⟨S100000x1, .i32⟩
  | 15 => ⟨S1, .i32⟩
  | 16 => ⟨S_, .i32⟩
  | 17 => ⟨S100000x1, .i32⟩
  | 18 => ⟨S100000x1, .i1⟩
  | 19 => ⟨S1x1, .i32⟩
  | 20 => ⟨S100000x1, .i32⟩
  | 21 => ⟨S100000x1, .i1⟩
  | 22 => ⟨S100000x1, .i1⟩
  | 23 => ⟨S_, .i1⟩
  | 24 => ⟨S100000, .i1⟩
  | 25 => ⟨S100000x128, .f32⟩
  | 26 => ⟨S100000x128, .i1⟩
  | 27 => ⟨S_, .f32⟩
  | 28 => ⟨S100000x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S_, .f32⟩
  | 35 => ⟨S100000x128, .f32⟩
  | 36 => ⟨S100000x128, .i1⟩
  | 37 => ⟨S_, .f32⟩
  | 38 => ⟨S100000x128, .f32⟩
  | 39 => ⟨S100000x128, .f32⟩
  | 40 => ⟨S100000x128, .f32⟩
  | 41 => ⟨S100000x256, .f32⟩
  | 42 => ⟨S100000x1, .f32⟩
  | 43 => ⟨S1x1, .f32⟩
  | 44 => ⟨S100000x1, .f32⟩
  | 45 => ⟨S100000x1, .f32⟩
  | 46 => ⟨S1x100000, .i32⟩
  | 47 => ⟨S256x100000, .i32⟩
  | 48 => ⟨S256x100000, .i32⟩
  | 49 => ⟨S256x100000, .i1⟩
  | 50 => ⟨S100000, .f32⟩
  | 51 => ⟨S1x100000, .f32⟩
  | 52 => ⟨S_, .f32⟩
  | 53 => ⟨S_, .f32⟩
  | 54 => ⟨S256x100000, .f32⟩
  | 55 => ⟨S256x100000, .f32⟩
  | 56 => ⟨S256x100000, .f32⟩
  | 57 => ⟨S_, .f32⟩
  | 58 => ⟨S256, .f32⟩
  | 59 => ⟨S256x1, .f32⟩
  | 60 => ⟨S256x1, .f32⟩
  | 61 => ⟨S_, .f32⟩
  | 62 => ⟨S256x1, .f32⟩
  | 63 => ⟨S256x1, .i1⟩
  | 64 => ⟨S_, .f32⟩
  | 65 => ⟨S_, .f32⟩
  | 66 => ⟨S256x1, .f32⟩
  | 67 => ⟨S256x1, .f32⟩
  | 68 => ⟨S_, .i32⟩
  | 69 => ⟨S100000, .i32⟩
  | 70 => ⟨S100000, .i1⟩
  | 71 => ⟨S_, .i32⟩
  | 72 => ⟨S100000, .i32⟩
  | 73 => ⟨S100000, .i32⟩
  | 74 => ⟨S100000, .i32⟩
  | 75 => ⟨S100000x1, .i32⟩
  | 76 => ⟨S1, .i32⟩
  | 77 => ⟨S_, .i32⟩
  | 78 => ⟨S100000x1, .i32⟩
  | 79 => ⟨S100000x1, .i1⟩
  | 80 => ⟨S1x1, .i32⟩
  | 81 => ⟨S100000x1, .i32⟩
  | 82 => ⟨S100000x1, .i1⟩
  | 83 => ⟨S100000x1, .i1⟩
  | 84 => ⟨S_, .i1⟩
  | 85 => ⟨S100000, .i1⟩
  | 86 => ⟨S100000x1, .f32⟩
  | 87 => ⟨S100000x1, .i1⟩
  | 88 => ⟨S_, .f32⟩
  | 89 => ⟨S100000x1, .f32⟩
  | 90 => ⟨S100000x1, .f32⟩
  | 91 => ⟨S100000x1, .f32⟩
  | 92 => ⟨S100000x1, .f32⟩
  | 93 => ⟨S_, .f32⟩
  | 94 => ⟨S256x1, .f32⟩
  | 95 => ⟨S100000x1, .i32⟩
  | 96 => ⟨S256x1, .f32⟩
  | 97 => ⟨S_, .f32⟩
  | 98 => ⟨S256x1, .f32⟩
  | 99 => ⟨S256x1, .f32⟩
  | 100 => ⟨S_, .i32⟩
  | 101 => ⟨S100000, .i32⟩
  | 102 => ⟨S100000, .i1⟩
  | 103 => ⟨S_, .i32⟩
  | 104 => ⟨S100000, .i32⟩
  | 105 => ⟨S100000, .i32⟩
  | 106 => ⟨S100000, .i32⟩
  | 107 => ⟨S100000x1, .i32⟩
  | 108 => ⟨S1, .i32⟩
  | 109 => ⟨S_, .i32⟩
  | 110 => ⟨S100000x1, .i32⟩
  | 111 => ⟨S100000x1, .i1⟩
  | 112 => ⟨S1x1, .i32⟩
  | 113 => ⟨S100000x1, .i32⟩
  | 114 => ⟨S100000x1, .i1⟩
  | 115 => ⟨S100000x1, .i1⟩
  | 116 => ⟨S_, .i1⟩
  | 117 => ⟨S100000, .i1⟩
  | 118 => ⟨S100000x1, .f32⟩
  | 119 => ⟨S100000x1, .i1⟩
  | 120 => ⟨S_, .f32⟩
  | 121 => ⟨S100000x1, .f32⟩
  | 122 => ⟨S100000x1, .f32⟩
  | 123 => ⟨S100000x1, .f32⟩
  | 124 => ⟨S100000x128, .f32⟩
  | 125 => ⟨S100000x128, .f32⟩
  | 126 => ⟨S_, .f32⟩
  | 127 => ⟨S256x128, .f32⟩
  | _ => ⟨S256x128, .f32⟩

abbrev hbmTy0_1 (i : Nat) : BufTy := match i % 128 with
  | 0 => ⟨S100000x1, .i32⟩
  | 1 => ⟨S256x128, .f32⟩
  | 2 => ⟨S_, .f32⟩
  | 3 => ⟨S256x128, .f32⟩
  | 4 => ⟨S256x128, .i1⟩
  | 5 => ⟨S_, .f32⟩
  | 6 => ⟨S256x128, .f32⟩
  | 7 => ⟨S256x128, .i1⟩
  | 8 => ⟨S_, .f32⟩
  | 9 => ⟨S_, .f32⟩
  | 10 => ⟨S256x128, .f32⟩
  | 11 => ⟨S256x128, .f32⟩
  | 12 => ⟨S256x128, .f32⟩
  | 13 => ⟨S_, .f32⟩
  | 14 => ⟨S256x128, .f32⟩
  | 15 => ⟨S256x128, .f32⟩
  | 16 => ⟨S256x128, .f32⟩
  | _ => ⟨S256x128, .f32⟩

abbrev hbmTy (i : Nat) : BufTy := match i / 128 with
  | 0 => hbmTy0_0 i
  | 1 => hbmTy0_1 i
  | _ => ⟨S256x128, .f32⟩

abbrev bufTy : (tb : Table) → Fin (tcTables nBuf tb) → BufTy
  | .hbm, ⟨i, _⟩ => hbmTy i
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_cst : Ref sig .tc := ⟨.hbm, 34, rfl⟩
abbrev main_v5 : Ref sig .tc := ⟨.hbm, 35, rfl⟩
abbrev main_v6 : Ref sig .tc := ⟨.hbm, 36, rfl⟩
abbrev main_cst_0 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_1 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v21 : Ref sig .tc := ⟨.hbm, 56, rfl⟩
abbrev main_cst_2 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_3 : Ref sig .tc := ⟨.hbm, 61, rfl⟩
abbrev main_v25 : Ref sig .tc := ⟨.hbm, 62, rfl⟩
abbrev main_v26 : Ref sig .tc := ⟨.hbm, 63, rfl⟩
abbrev main_cst_4 : Ref sig .tc := ⟨.hbm, 64, rfl⟩
abbrev main_call3_v0 : Ref sig .tc := ⟨.hbm, 65, rfl⟩
abbrev main_call3_v1 : Ref sig .tc := ⟨.hbm, 66, rfl⟩
abbrev main_v27 : Ref sig .tc := ⟨.hbm, 67, rfl⟩
abbrev main_call4_c : Ref sig .tc := ⟨.hbm, 68, rfl⟩
abbrev main_call4_v0 : Ref sig .tc := ⟨.hbm, 69, rfl⟩
abbrev main_call4_v1 : Ref sig .tc := ⟨.hbm, 70, rfl⟩
abbrev main_call4_c_0 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_call4_v5 : Ref sig .tc := ⟨.hbm, 75, rfl⟩
abbrev main_call4_c_1 : Ref sig .tc := ⟨.hbm, 76, rfl⟩
abbrev main_call4_c_2 : Ref sig .tc := ⟨.hbm, 77, rfl⟩
abbrev main_call4_v6 : Ref sig .tc := ⟨.hbm, 78, rfl⟩
abbrev main_call4_v7 : Ref sig .tc := ⟨.hbm, 79, rfl⟩
abbrev main_call4_v8 : Ref sig .tc := ⟨.hbm, 80, rfl⟩
abbrev main_call4_v9 : Ref sig .tc := ⟨.hbm, 81, rfl⟩
abbrev main_call4_v10 : Ref sig .tc := ⟨.hbm, 82, rfl⟩
abbrev main_call4_v11 : Ref sig .tc := ⟨.hbm, 83, rfl⟩
abbrev main_call4_c_3 : Ref sig .tc := ⟨.hbm, 84, rfl⟩
abbrev main_call4_v12 : Ref sig .tc := ⟨.hbm, 85, rfl⟩
abbrev main_call4_v13 : Ref sig .tc := ⟨.hbm, 86, rfl⟩
abbrev main_call4_v14 : Ref sig .tc := ⟨.hbm, 87, rfl⟩
abbrev main_call4_cst : Ref sig .tc := ⟨.hbm, 88, rfl⟩
abbrev main_call4_v15 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_cst_5 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_cst_6 : Ref sig .tc := ⟨.hbm, 97, rfl⟩
abbrev main_v34 : Ref sig .tc := ⟨.hbm, 98, rfl⟩
abbrev main_v35 : Ref sig .tc := ⟨.hbm, 99, rfl⟩
abbrev main_call5_c : Ref sig .tc := ⟨.hbm, 100, rfl⟩
abbrev main_call5_v0 : Ref sig .tc := ⟨.hbm, 101, rfl⟩
abbrev main_call5_v1 : Ref sig .tc := ⟨.hbm, 102, rfl⟩
abbrev main_call5_c_0 : Ref sig .tc := ⟨.hbm, 103, rfl⟩
abbrev main_call5_v2 : Ref sig .tc := ⟨.hbm, 104, rfl⟩
abbrev main_call5_v3 : Ref sig .tc := ⟨.hbm, 105, rfl⟩
abbrev main_call5_v4 : Ref sig .tc := ⟨.hbm, 106, rfl⟩
abbrev main_call5_v5 : Ref sig .tc := ⟨.hbm, 107, rfl⟩
abbrev main_call5_c_1 : Ref sig .tc := ⟨.hbm, 108, rfl⟩
abbrev main_call5_c_2 : Ref sig .tc := ⟨.hbm, 109, rfl⟩
abbrev main_call5_v6 : Ref sig .tc := ⟨.hbm, 110, rfl⟩
abbrev main_call5_v7 : Ref sig .tc := ⟨.hbm, 111, rfl⟩
abbrev main_call5_v8 : Ref sig .tc := ⟨.hbm, 112, rfl⟩
abbrev main_call5_v9 : Ref sig .tc := ⟨.hbm, 113, rfl⟩
abbrev main_call5_v10 : Ref sig .tc := ⟨.hbm, 114, rfl⟩
abbrev main_call5_v11 : Ref sig .tc := ⟨.hbm, 115, rfl⟩
abbrev main_call5_c_3 : Ref sig .tc := ⟨.hbm, 116, rfl⟩
abbrev main_call5_v12 : Ref sig .tc := ⟨.hbm, 117, rfl⟩
abbrev main_call5_v13 : Ref sig .tc := ⟨.hbm, 118, rfl⟩
abbrev main_call5_v14 : Ref sig .tc := ⟨.hbm, 119, rfl⟩
abbrev main_call5_cst : Ref sig .tc := ⟨.hbm, 120, rfl⟩
abbrev main_call5_v15 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_v39 : Ref sig .tc := ⟨.hbm, 125, rfl⟩
abbrev main_cst_7 : Ref sig .tc := ⟨.hbm, 126, rfl⟩
abbrev main_v40 : Ref sig .tc := ⟨.hbm, 127, rfl⟩
abbrev main_v41 : Ref sig .tc := ⟨.hbm, 128, rfl⟩
abbrev main_v42 : Ref sig .tc := ⟨.hbm, 129, rfl⟩
abbrev main_call6_cst : Ref sig .tc := ⟨.hbm, 130, rfl⟩
abbrev main_call6_v0 : Ref sig .tc := ⟨.hbm, 131, rfl⟩
abbrev main_call6_v1 : Ref sig .tc := ⟨.hbm, 132, rfl⟩
abbrev main_call6_cst_0 : Ref sig .tc := ⟨.hbm, 133, rfl⟩
abbrev main_call6_v2 : Ref sig .tc := ⟨.hbm, 134, rfl⟩
abbrev main_call6_v3 : Ref sig .tc := ⟨.hbm, 135, rfl⟩
abbrev main_call6_cst_1 : Ref sig .tc := ⟨.hbm, 136, rfl⟩
abbrev main_call6_call0_v0 : Ref sig .tc := ⟨.hbm, 137, rfl⟩
abbrev main_call6_call0_v1 : Ref sig .tc := ⟨.hbm, 138, rfl⟩
abbrev main_call6_v4 : Ref sig .tc := ⟨.hbm, 139, rfl⟩
abbrev main_call6_v5 : Ref sig .tc := ⟨.hbm, 140, rfl⟩
abbrev main_call6_cst_2 : Ref sig .tc := ⟨.hbm, 141, rfl⟩
abbrev main_call6_v6 : Ref sig .tc := ⟨.hbm, 142, rfl⟩
abbrev main_call6_v7 : Ref sig .tc := ⟨.hbm, 143, rfl⟩
abbrev main_v43 : Ref sig .tc := ⟨.hbm, 144, rfl⟩

abbrev nD : Nat := 1
abbrev τ : Topo := Topo.v7x

variable {F : FTy → Type} [FloatOps F]
-- ==== Proof.KI.Setup.lean ====
/-
  The program as the SparseCore launch theorem sees it: its configuration, the resource algebra of the proof
  (the handshakes' rounds, the TensorCore pipeline's rounds, the transfers' counters) and the arrays by name.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Writes
public import Idealize.ShloMosaic.Lib.WholeRead
public import Idealize.ShloMosaic.Lib.WritesUnit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

/-- The labels of the program's body table: the kernels' and the pipeline's. -/
abbrev ΛP : Labels := Pipeline.Sig Λ₀ (Fin 1) fun p => (pcfgs (F := F) p).Adm
/-- The SparseCore configuration. -/
abbrev K : SparseCore.Cfg τ sig (ΛP (F := F)) 1 := sc (F := F)
theorem nSub_zero : (K (F := F)).nSub 0 = 16 := rfl
theorem nCore_zero : (K (F := F)).nCore 0 = 2 := rfl
/-- The body table below the SparseCore's. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The configuration's side conditions, decided. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The TensorCore pipeline's rounds. -/
abbrev UP : Type := URounds (GSem nD τ sig) Unit
abbrev UU : Type := UH × (UP × Counters)

local notation "𝕄" => MT nD τ sig (HIx 1) (Elt F) ℕ UU ℕ

/-- The handshakes' rounds, the left factor. -/
abbrev EH : Emb UH (MT nD τ sig (HIx 1) (Elt F) ℕ UU ℕ) := embL
/-- The pipeline's rounds, the middle factor. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-! ## The arrays the SparseCore call reads and writes -/

/-- The scores of the nodes, the node's graph numbers, the states' scores and the result, as locations of device `d`. -/
abbrev zLoc (d : Dev nD) : Loc nD τ sig := (SparseCore.T d).loc main_v9
abbrev iLoc (d : Dev nD) : Loc nD τ sig := (SparseCore.T d).loc main_arg2
abbrev pLoc (d : Dev nD) : Loc nD τ sig := (SparseCore.T d).loc main_v10
abbrev oLoc (d : Dev nD) : Loc nD τ sig := (SparseCore.T d).loc main_v11

abbrev zV : Memref sig .scVector .hbm S100000 .f32 := Memref.whole main_v9_scv
abbrev iV : Memref sig .scVector .hbm S100000 .i32 := Memref.whole main_arg2_scv
abbrev pV : Memref sig .scVector .hbm S256 .f32 := Memref.whole main_v10_scv
abbrev oV : Memref sig .scVector .hbm S100000 .f32 := Memref.whole main_v11_scv
/-- A task's scratch buffers: its scores, its graph numbers, the states' scores, its results. -/
abbrev sZ : Memref sig .scVector .vmem S3136 .f32 := Memref.whole cc1_scratch0
abbrev sI : Memref sig .scVector .vmem S3136 .i32 := Memref.whole cc1_scratch1
abbrev sP : Memref sig .scVector .vmem S256 .f32 := Memref.whole cc1_scratch2
abbrev sO : Memref sig .scVector .vmem S3136 .f32 := Memref.whole cc1_scratch3

/-- The SparseCore and the tile of coordinates `L`. -/
abbrev cV (L : grid1.Coords) : Fin τ.nSC := (L 0).castLE hcore1
abbrev jV (L : grid1.Coords) : Fin τ.nSub := (L 1).castLE hsub1

end Cert.Proof.KI

end
-- ==== Proof.KI.Loop.lean ====
/-
  The SparseCore task's loop: trip `k` gathers the states' scores at sixteen graph numbers and adds the sixteen
  scores of the nodes to them. The invariant says what the first `16 k` elements of the result scratch hold.
-/
module

public import proofs.«01_k».proof.Proof.KI.Setup

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The state a graph number names (the number taken modulo the number of graphs, so that every word names one). -/
def gIx (w : BitVec 32) : S256.Idx := fun | 0 => ⟨w.toNat % 256, Nat.mod_lt _ (by decide)⟩

variable (d : Dev nD) (L : grid1.Coords)

/-- What the loop finds and leaves: its three inputs unchanged; of the results the first `16 k` are the sums. -/
def inv (fz : S3136.Idx → Elt F .f32) (fi : S3136.Idx → Elt F .i32) (fs : S256.Idx → Elt F .f32) (k : Nat) (_ : PUnit) : sProp 𝕄 :=
  iprop((sZ.view.loc (V d (cV L) (jV L)) ↦{fullShare} fz)
    ∗ (sI.view.loc (V d (cV L) (jV L)) ↦{fullShare} fi)
    ∗ (sP.view.loc (V d (cV L) (jV L)) ↦{fullShare} fs)
    ∗ ∃ fo : S3136.Idx → Elt F .f32, ⌜∀ j : S3136.Idx, (j 0).val < 16 * k → fo j = FloatOps.addf (F := F) (fz j) (fs (gIx (fi j)))⌝
        ∗ (sO.view.loc (V d (cV L) (jV L)) ↦{fullShare} fo))

theorem pts_sP_access (f : S256.Idx → Elt F .f32) :
    ((sP.access (.whole S256)).loc (V d (cV L) (jV L)) ↦{fullShare} f : sProp 𝕄) = (sP.view.loc (V d (cV L) (jV L)) ↦{fullShare} f) := rfl

/-- Trip `k`'s sixteen graph numbers, read out of the scratch. -/
theorem read_ids (fi : S3136.Idx → Elt F .i32) (k : Fin (k1_t1_loop L).trips) (x : S16.Idx) :
    View.readAt (Elt F) sI.view (Rect.unit (s := S3136) (k1_off3 L k) S16.size (k1_off3_inb L k)).toLoadRect fi x
      = fi ((Rect.unit (s := S3136) (k1_off3 L k) S16.size (k1_off3_inb L k)).emb x) := rfl

theorem off3_val (k : Fin (k1_t1_loop L).trips) (x : S16.Idx) :
    ((Rect.unit (s := S3136) (k1_off3 L k) S16.size (k1_off3_inb L k)).emb x 0).val = 16 * k.val + (x 0).val := by
  show (k1_off3 L k) 0 + 1 * (x 0).val = _
  rw [k1_off3_eq L k]; simp
theorem off4_val (k : Fin (k1_t1_loop L).trips) (x : S16.Idx) :
    ((Rect.unit (s := S3136) (k1_off4 L k) S16.size (k1_off4_inb L k)).emb x 0).val = 16 * k.val + (x 0).val := by
  show (k1_off4 L k) 0 + 1 * (x 0).val = _
  rw [k1_off4_eq L k]; simp

/-- Trip `k`'s check holds of graph numbers in range. -/
theorem chk_of (fi : S3136.Idx → Elt F .i32) (k : Fin (k1_t1_loop L).trips) (hfi : ∀ j : S3136.Idx, (j 0).val < 16 * (k.val + 1) → (fi j).toNat < 256) :
    k1_chk1 (View.readAt (Elt F) sI.view (Rect.unit (s := S3136) (k1_off3 L k) S16.size (k1_off3_inb L k)).toLoadRect fi) := by
  unfold k1_chk1
  intro a x
  match a with
  | 0 =>
    show (View.readAt (Elt F) sI.view (Rect.unit (s := S3136) (k1_off3 L k) S16.size (k1_off3_inb L k)).toLoadRect fi x).toNat < 256
    rw [read_ids]
    refine hfi _ ?_
    rw [off3_val]
    have : (x 0).val < 16 := (x 0).isLt
    omega

/-- What trip `k`'s store leaves in the first `16 (k + 1)` elements. -/
theorem store_val (fz : S3136.Idx → Elt F .f32) (fi : S3136.Idx → Elt F .i32) (fs : S256.Idx → Elt F .f32)
    (k : Fin (k1_t1_loop L).trips) (fo : S3136.Idx → Elt F .f32)
    (hfo : ∀ j : S3136.Idx, (j 0).val < 16 * k.val → fo j = FloatOps.addf (F := F) (fz j) (fs (gIx (fi j))))
    (hfi : ∀ j : S3136.Idx, (j 0).val < 16 * (k.val + 1) → (fi j).toNat < 256)
    (j : S3136.Idx) (hj : (j 0).val < 16 * (k.val + 1)) :
    sO.view.writes (Elt F) fo
      [⟨Rect.unit (s := S3136) (k1_off4 L k) S16.size (k1_off4_inb L k),
        k1_pay1
          (loadIdx (View.read (Elt F) (sP.access (Rect.whole S256)) fs)
            ![View.readAt (Elt F) sI.view (Rect.unit (s := S3136) (k1_off3 L k) S16.size (k1_off3_inb L k)).toLoadRect fi] (chk_of L fi k hfi))
          (View.readAt (Elt F) sZ.view (Rect.unit (s := S3136) (k1_off4 L k) S16.size (k1_off4_inb L k)).toLoadRect fz)⟩] j
      = FloatOps.addf (F := F) (fz j) (fs (gIx (fi j))) := by
  refine (congrFun (View.read_whole (Val := Elt F) (cc1_scratch3 : Ref sig .scVector) _) j).symm.trans ?_
  by_cases hlt : (j 0).val < 16 * k.val
  · rw [View.read_writes_cons_unit_of_not_mem sO.view fo _ _ _ j (k1_off4_eq L k) 0 (Or.inl (by simpa using hlt))]
    exact hfo j hlt
  · obtain ⟨x, hx⟩ : ∃ x : S16.Idx, (j 0).val = 16 * k.val + (x 0).val :=
      ⟨fun | 0 => ⟨(j 0).val - 16 * k.val, by show _ < 16; omega⟩, by show _ = 16 * k.val + ((j 0).val - 16 * k.val); omega⟩
    refine (View.read_writes_cons_unit_of_mem sO.view fo (k1_off4_inb L k) _ _ j x (k1_off4_eq L k) (fun | 0 => by simpa using hx)).trans ?_
    have e4 : (Rect.unit (s := S3136) (k1_off4 L k) S16.size (k1_off4_inb L k)).emb x = j :=
      funext fun | 0 => Fin.ext ((off4_val L k x).trans hx.symm)
    have e3 : (Rect.unit (s := S3136) (k1_off3 L k) S16.size (k1_off3_inb L k)).emb x = j :=
      funext fun | 0 => Fin.ext ((off3_val L k x).trans hx.symm)
    show FloatOps.addf (F := F) (fz ((Rect.unit (s := S3136) (k1_off4 L k) S16.size (k1_off4_inb L k)).emb x)) (fs _) = _
    rw [e4]
    congr 2
    funext a
    match a with
    | 0 =>
      refine Fin.ext ?_
      show 0 + 1 * (fi ((Rect.unit (s := S3136) (k1_off3 L k) S16.size (k1_off3_inb L k)).emb x)).toNat = (fi j).toNat % 256
      rw [e3, Nat.zero_add, Nat.one_mul, Nat.mod_eq_of_lt (hfi j hj)]

/-- One trip carries the invariant on. -/
theorem loop_step (fz : S3136.Idx → Elt F .f32) (fi : S3136.Idx → Elt F .i32) (fs : S256.Idx → Elt F .f32)
    (k : Fin (k1_t1_loop L).trips) (hfi : ∀ j : S3136.Idx, (j 0).val < 16 * (k.val + 1) → (fi j).toNat < 256) :
    inv d L fz fi fs k.val ⟨⟩ ⊢ wp frame (wpE (defs₀ (F := F)) 𝒱₀ (V d (cV L) (jV L)) none) Set.univ
      (k1_t1_body (F := F) L zV (Memref.isWhole_whole _) iV (Memref.isWhole_whole _) pV (Memref.isWhole_whole _) oV (Memref.isWhole_whole _)
        sZ (Memref.isWhole_whole _) sI (Memref.isWhole_whole _) sP (Memref.isWhole_whole _) sO (Memref.isWhole_whole _)
        cc1_scoped0 cc1_scoped1 cc1_scoped2 cc1_scoped3 cc1_scoped4 cc1_scoped5 cc1_scoped6 k ⟨⟩)
      fun s => inv d L fz fi fs (k.val + 1) s := by
  unfold inv k1_t1_body
  iintro ⟨Hz, Hi, Hp, %fo, %hfo, Ho⟩
  sl_exec
  rw [wp_assume_of _ _ _ _ (chk_of L fi k hfi)]
  ihave Hp' := (Entails.of_eq (pts_sP_access (F := F) d L _).symm) $$ Hp
  iapply (SparseCore.wp_vectorLoadIdx 𝒱₀ (V d (cV L) (jV L)) none Set.univ (base := sP) (S := Finset.univ) (q := fullShare) (Finset.subset_univ _)) $$ Hp'
  iintro Hp'
  ihave Hp := (Entails.of_eq (pts_sP_access (F := F) d L _)) $$ Hp'
  sl_exec
  sl_step
  isplitl [Hz]; · iexact Hz
  isplitl [Hi]; · iexact Hi
  isplitl [Hp]; · iexact Hp
  iexists _; isplitr
  rotate_left
  · iexact Ho
  · ipureintro
    intro j hj
    exact store_val L fz fi fs k fo hfo hfi j hj

end Cert.Proof.KI

end
-- ==== Proof.KI.Tile.lean ====
/-
  One SparseCore task: it fetches the states' scores and its chunk of the nodes' scores and graph numbers, runs the
  loop of `Loop.lean` and writes its chunk of the result. Read shares of the three inputs come back unchanged; the
  task's chunk of the result holds, at every node, the node's score plus the score of the state its graph number names.
-/
module

public import proofs.«01_k».proof.Proof.KI.Loop

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## Which chunk a task has -/

/-- The number of the task at coordinates `L`. -/
def wid (L : grid1.Coords) : ℕ := 2 * (L 1).val + (L 0).val

theorem wid_lt (L : grid1.Coords) : wid L < 32 := by
  have h0 : (L 0).val < 2 := (L 0).isLt
  have h1 : (L 1).val < 16 := (L 1).isLt
  unfold wid; omega

theorem cond1_iff : ∀ L : grid1.Coords, k1_cond1 L = 1#1 ↔ wid L < 31 := by decide +kernel
theorem cond2_iff : ∀ L : grid1.Coords, k1_cond2 L = 1#1 ↔ ¬ wid L < 31 := by decide +kernel
theorem cond3_iff : ∀ L : grid1.Coords, k1_cond3 L = 1#1 ↔ wid L < 31 := by decide +kernel
theorem cond4_iff : ∀ L : grid1.Coords, k1_cond4 L = 1#1 ↔ ¬ wid L < 31 := by decide +kernel
theorem trips1 : ∀ L : grid1.Coords, (k1_t1_loop L).trips = if wid L < 31 then 196 else 174 := by decide +kernel
theorem trips2 : ∀ L : grid1.Coords, (k1_t2_loop L).trips = 0 := by decide +kernel

/-- The nodes of task `w`. -/
def oSet (w : ℕ) : Finset S100000.Idx := Finset.univ.filter fun j => 3136 * w ≤ (j 0).val ∧ (j 0).val < 3136 * (w + 1)

/-- The result of the call: every node's score plus its state's. -/
def alignOf (fz : S100000.Idx → Elt F .f32) (fi : S100000.Idx → Elt F .i32) (fp : S256.Idx → Elt F .f32) : S100000.Idx → Elt F .f32 :=
  fun j => FloatOps.addf (F := F) (fz j) (fp (gIx (fi j)))

variable (d : Dev nD) (L : grid1.Coords)

/-! ## The task's own semaphores and buffers -/

abbrev cell (s : DmaSem sig) : GSem nD τ sig := (V d (cV L) (jV L), .dma s)

theorem ownSems0_V :
    (ownSems0 (V d (cV L) (jV L)) : sProp 𝕄)
      = iprop(semVal (cell d L cc1_scoped0.sem) 0 ∗ semVal (cell d L cc1_scoped1.sem) 0 ∗ semVal (cell d L cc1_scoped2.sem) 0
        ∗ semVal (cell d L cc1_scoped3.sem) 0 ∗ semVal (cell d L cc1_scoped4.sem) 0 ∗ semVal (cell d L cc1_scoped5.sem) 0
        ∗ semVal (cell d L cc1_scoped6.sem) 0
        ∗ bigSep ((((((((ownCells (V d (cV L) (jV L))).erase (cell d L cc1_scoped0.sem)).erase (cell d L cc1_scoped1.sem)).erase
            (cell d L cc1_scoped2.sem)).erase (cell d L cc1_scoped3.sem)).erase (cell d L cc1_scoped4.sem)).erase
            (cell d L cc1_scoped5.sem)).erase (cell d L cc1_scoped6.sem)) fun g => semVal g 0) := by
  have hne : ∀ s s' : DmaSem sig, s ≠ s' → cell d L s ≠ cell d L s' := fun s s' h e => h (by simpa [cell] using e)
  unfold SparseCore.Cfg.ownSems0
  rw [SparseCore.bigSep_erase' ((mem_ownCells (g := cell d L cc1_scoped0.sem)).mpr ⟨rfl, by show (SemLoc.dma cc1_scoped0.sem : SemLoc sig).isScoped .scVector = true; decide⟩),
    SparseCore.bigSep_erase' (Finset.mem_erase.mpr ⟨hne _ _ (by decide), (mem_ownCells (g := cell d L cc1_scoped1.sem)).mpr ⟨rfl, by show (SemLoc.dma cc1_scoped1.sem : SemLoc sig).isScoped .scVector = true; decide⟩⟩),
    SparseCore.bigSep_erase' (Finset.mem_erase.mpr ⟨hne _ _ (by decide), Finset.mem_erase.mpr ⟨hne _ _ (by decide), (mem_ownCells (g := cell d L cc1_scoped2.sem)).mpr ⟨rfl, by show (SemLoc.dma cc1_scoped2.sem : SemLoc sig).isScoped .scVector = true; decide⟩⟩⟩),
    SparseCore.bigSep_erase' (Finset.mem_erase.mpr ⟨hne _ _ (by decide), Finset.mem_erase.mpr ⟨hne _ _ (by decide), Finset.mem_erase.mpr ⟨hne _ _ (by decide), (mem_ownCells (g := cell d L cc1_scoped3.sem)).mpr ⟨rfl, by show (SemLoc.dma cc1_scoped3.sem : SemLoc sig).isScoped .scVector = true; decide⟩⟩⟩⟩),
    SparseCore.bigSep_erase' (Finset.mem_erase.mpr ⟨hne _ _ (by decide), Finset.mem_erase.mpr ⟨hne _ _ (by decide), Finset.mem_erase.mpr ⟨hne _ _ (by decide), Finset.mem_erase.mpr ⟨hne _ _ (by decide), (mem_ownCells (g := cell d L cc1_scoped4.sem)).mpr ⟨rfl, by show (SemLoc.dma cc1_scoped4.sem : SemLoc sig).isScoped .scVector = true; decide⟩⟩⟩⟩⟩),
    SparseCore.bigSep_erase' (Finset.mem_erase.mpr ⟨hne _ _ (by decide), Finset.mem_erase.mpr ⟨hne _ _ (by decide), Finset.mem_erase.mpr ⟨hne _ _ (by decide), Finset.mem_erase.mpr ⟨hne _ _ (by decide), Finset.mem_erase.mpr ⟨hne _ _ (by decide), (mem_ownCells (g := cell d L cc1_scoped5.sem)).mpr ⟨rfl, by show (SemLoc.dma cc1_scoped5.sem : SemLoc sig).isScoped .scVector = true; decide⟩⟩⟩⟩⟩⟩),
    SparseCore.bigSep_erase' (Finset.mem_erase.mpr ⟨hne _ _ (by decide), Finset.mem_erase.mpr ⟨hne _ _ (by decide), Finset.mem_erase.mpr ⟨hne _ _ (by decide), Finset.mem_erase.mpr ⟨hne _ _ (by decide), Finset.mem_erase.mpr ⟨hne _ _ (by decide), Finset.mem_erase.mpr ⟨hne _ _ (by decide), (mem_ownCells (g := cell d L cc1_scoped6.sem)).mpr ⟨rfl, by show (SemLoc.dma cc1_scoped6.sem : SemLoc sig).isScoped .scVector = true; decide⟩⟩⟩⟩⟩⟩⟩)]

/-- A scratch buffer of the task, as a buffer of the device. -/
abbrev bref (b : Ref sig .scVector) : DevRef τ sig := (Proc.scVector (cV L) (jV L)).devRef b

theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
        ∗ (∃ f, (V d (cV L) (jV L)).loc cc1_scratch2 ↦{fullShare} f) ∗ (∃ f, (V d (cV L) (jV L)).loc cc1_scratch3 ↦{fullShare} f)
        ∗ bigSep (((((ownRefs (Proc.scVector (cV L) (jV L))).erase (bref L cc1_scratch0)).erase (bref L cc1_scratch1)).erase (bref L cc1_scratch2)).erase (bref L cc1_scratch3))
            fun b => iprop(∃ f, ((d, b) : Loc nD τ sig) ↦{fullShare} f)) := by
  have hne : ∀ b b' : Ref sig .scVector, b ≠ b' → bref L b ≠ bref L b' := fun b b' h e => h (Proc.devRef_injective _ e)
  unfold SparseCore.Cfg.ownBufs
  rw [SparseCore.bigSep_erase' (SparseCore.Cfg.mem_ownRefs_of_owner (p := Proc.scVector (cV L) (jV L)) (b := bref L cc1_scratch0) rfl),
    SparseCore.bigSep_erase' (Finset.mem_erase.mpr ⟨hne _ _ (by decide), SparseCore.Cfg.mem_ownRefs_of_owner (p := Proc.scVector (cV L) (jV L)) (b := bref L cc1_scratch1) rfl⟩),
    SparseCore.bigSep_erase' (Finset.mem_erase.mpr ⟨hne _ _ (by decide), Finset.mem_erase.mpr ⟨hne _ _ (by decide), SparseCore.Cfg.mem_ownRefs_of_owner (p := Proc.scVector (cV L) (jV L)) (b := bref L cc1_scratch2) rfl⟩⟩),
    SparseCore.bigSep_erase' (Finset.mem_erase.mpr ⟨hne _ _ (by decide), Finset.mem_erase.mpr ⟨hne _ _ (by decide), Finset.mem_erase.mpr ⟨hne _ _ (by decide), SparseCore.Cfg.mem_ownRefs_of_owner (p := Proc.scVector (cV L) (jV L)) (b := bref L cc1_scratch3) rfl⟩⟩⟩)]

/-! ## The chunks -/

/-- A full task's chunk of the result, as it slices it. -/
abbrev oSl (h : k1_cond3 L = 1#1) : Memref sig .scVector .hbm S3136 .f32 :=
  (oV : Memref sig .scVector .hbm S100000 .f32).slice (Rect.unit (s := S100000) (k1_off7 L) S3136.size (k1_off7_inb L h)) (fun _ => rfl)
/-- The last task's chunk of the result, as it slices it. -/
abbrev oSl' (h : k1_cond4 L = 1#1) : Memref sig .scVector .hbm S2784 .f32 :=
  (oV : Memref sig .scVector .hbm S100000 .f32).slice (Rect.unit (s := S100000) (k1_off8 L) S2784.size (k1_off8_inb L h)) (fun _ => rfl)

theorem wid_off : (![6272 * (L 1).val + 3136 * (L 0).val] : Fin 1 → ℕ) = ![3136 * wid L] := by
  unfold wid; congr 1; omega

theorem set_oSl (h : k1_cond3 L = 1#1) : (oSl L h).view.set = oSet (wid L) := by
  have e : (oSl L h).view.set = (Rect.unit (s := S100000) (k1_off7 L) S3136.size (k1_off7_inb L h)).set := View.set_slice_whole _ _
  rw [e]
  ext j
  rw [Rect.mem_set_unit, oSet, Finset.mem_filter, k1_off7_eq L, wid_off]
  refine ⟨fun hj => ⟨Finset.mem_univ _, ?_⟩, fun hj a => ?_⟩
  · have h0 : 3136 * wid L ≤ (j 0).val ∧ (j 0).val < 3136 * wid L + 3136 := hj 0
    omega
  · obtain rfl : a = 0 := Subsingleton.elim _ _
    have h0 := hj.2
    show 3136 * wid L ≤ (j 0).val ∧ (j 0).val < 3136 * wid L + 3136
    omega

theorem set_oSl' (h : k1_cond4 L = 1#1) : (oSl' L h).view.set = oSet (wid L) := by
  have e : (oSl' L h).view.set = (Rect.unit (s := S100000) (k1_off8 L) S2784.size (k1_off8_inb L h)).set := View.set_slice_whole _ _
  have hw : wid L = 31 := by have := (cond4_iff L).mp h; have := wid_lt L; omega
  rw [e]
  ext j
  rw [Rect.mem_set_unit, oSet, Finset.mem_filter, k1_off8_eq L, wid_off]
  refine ⟨fun hj => ⟨Finset.mem_univ _, ?_⟩, fun hj a => ?_⟩
  · have h0 : 3136 * wid L ≤ (j 0).val ∧ (j 0).val < 3136 * wid L + 2784 := hj 0
    omega
  · obtain rfl : a = 0 := Subsingleton.elim _ _
    have h0 := hj.2
    have h1 : (j 0).val < 100000 := (j 0).isLt
    show 3136 * wid L ≤ (j 0).val ∧ (j 0).val < 3136 * wid L + 2784
    omega

/-- What a task writes back stands on its chunk. -/
theorem oSl_landed (h : k1_cond3 L = 1#1) (fo : S100000.Idx → Elt F .f32) (p : S3136.Idx → Elt F .f32) (x : S3136.Idx) :
    (oSl L h).view.writes (Elt F) fo [⟨Rect.whole S3136, p⟩] ((oSl L h).view.emb x) = p x := by
  have e := View.read_writes_cons_hit (Val := Elt F) (oSl L h).view fo (Rect.whole S3136) p [] x x (Rect.emb_whole_apply _ _)
  rw [View.read_apply] at e
  exact (cast_eq _ _).symm.trans e

/-- What a task writes back stands on its chunk. -/
theorem oSl'_landed (h : k1_cond4 L = 1#1) (fo : S100000.Idx → Elt F .f32) (p : S2784.Idx → Elt F .f32) (x : S2784.Idx) :
    (oSl' L h).view.writes (Elt F) fo [⟨Rect.whole S2784, p⟩] ((oSl' L h).view.emb x) = p x := by
  have e := View.read_writes_cons_hit (Val := Elt F) (oSl' L h).view fo (Rect.whole S2784) p [] x x (Rect.emb_whole_apply _ _)
  rw [View.read_apply] at e
  exact (cast_eq _ _).symm.trans e

/-- The node a task's element `n` is (the number taken modulo the number of nodes, so that every number names one). -/
def cIx (w n : ℕ) : S100000.Idx := fun | 0 => ⟨(3136 * w + n) % 100000, Nat.mod_lt _ (by decide)⟩

theorem eq_cIx {w n : ℕ} {j : S100000.Idx} (h : (j 0).val = 3136 * w + n) : j = cIx w n := by
  funext a
  obtain rfl : a = 0 := Subsingleton.elim _ _
  apply Fin.ext
  have h1 : (j 0).val < 100000 := (j 0).isLt
  show (j 0).val = (3136 * w + n) % 100000
  rw [h, Nat.mod_eq_of_lt (by omega)]

/-- `tile_body` of a task with a full chunk. -/
theorem tile_bodyA (hw : wid L < 31) (q : PosShare TreeShare) (fz : S100000.Idx → Elt F .f32) (fi : S100000.Idx → Elt F .i32) (fp : S256.Idx → Elt F .f32)
    (fo : S100000.Idx → Elt F .f32) (hfi : ∀ j, (fi j).toNat < 256)
    (O : CellTallies nD τ sig (HIx 1)) (W : Waits sig (HIx 1)) (hO : ∀ g, O g none = 0) :
    iprop((levAts (K (F := F)).L (K (F := F)).lev : sProp 𝕄)
        ∗ ((zLoc d ↦{q} fz) ∗ (iLoc d ↦{q} fi) ∗ (pLoc d ↦{q} fp) ∗ (oLoc d ↦[oSet (wid L)]{fullShare} fo))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L zV (Memref.isWhole_whole _) iV (Memref.isWhole_whole _) pV (Memref.isWhole_whole _) oV (Memref.isWhole_whole _)
            sZ (Memref.isWhole_whole _) sI (Memref.isWhole_whole _) sP (Memref.isWhole_whole _) sO (Memref.isWhole_whole _)
            cc1_scoped0 cc1_scoped1 cc1_scoped2 cc1_scoped3 cc1_scoped4 cc1_scoped5 cc1_scoped6)
          fun _ => iprop(((zLoc d ↦{q} fz) ∗ (iLoc d ↦{q} fi) ∗ (pLoc d ↦{q} fp) ∗ (oLoc d ↦[oSet (wid L)]{fullShare} alignOf fz fi fp))
            ∗ scopedBufs (V d (cV L) (jV L)) ∗ scopedSems0 (V d (cV L) (jV L))
            ∗ ∃ W', ⌜∀ p ∈ W', p ∈ W ∨ p.2 = none⌝ ∗ owes (V d (cV L) (jV L)) O W') := by
  have h1 : k1_cond1 L = 1#1 := (cond1_iff L).mpr hw
  have h2 : ¬ k1_cond2 L = 1#1 := fun h => (cond2_iff L).mp h hw
  have h3 : k1_cond3 L = 1#1 := (cond3_iff L).mpr hw
  have h4 : ¬ k1_cond4 L = 1#1 := fun h => (cond4_iff L).mp h hw
  simp only [cc1__sc_body_eq_skeleton]; unfold cc1__sc_body_skel
  rw [(K (F := F)).scopedBufs_V facts d (cV L) (jV L), SparseCore.Cfg.scopedSems0_V (Val := Elt F) d (cV L) (jV L), ownSems0_V, ownBufs_V]
  iintro ⟨#Hlv, ⟨Hz, Hi, Hp, Ho⟩, ⟨⟨%gz, Hsz⟩, ⟨%gi, Hsi⟩, ⟨%gp, Hsp⟩, ⟨%go, Hso⟩, Hbufs⟩, ⟨Hc0, Hc1, Hc2, Hc3, Hc4, Hc5, Hc6, Hsems⟩, HO⟩
  ihave Hmw := ((K (F := F)).mayWaits_none (thr := V d (cV L) (jV L)) hO) $$ Hlv
  ihave Hz' := (Entails.of_eq (show (zLoc d ↦{q} fz : sProp 𝕄) = (zV.view.loc (V d (cV L) (jV L)) ↦{q} fz) from rfl)) $$ Hz
  ihave Hi' := (Entails.of_eq (show (iLoc d ↦{q} fi : sProp 𝕄) = (iV.view.loc (V d (cV L) (jV L)) ↦{q} fi) from rfl)) $$ Hi
  ihave Hp' := (Entails.of_eq (show (pLoc d ↦{q} fp : sProp 𝕄) = (pV.view.loc (V d (cV L) (jV L)) ↦{q} fp) from rfl)) $$ Hp
  ihave Ho' := (Entails.of_eq (show (oLoc d ↦[oSet (wid L)]{fullShare} fo : sProp 𝕄) = ((oSl L h3).view.loc (V d (cV L) (jV L)) ↦[(oSl L h3).view.set]{fullShare} fo) from by rw [set_oSl])) $$ Ho
  ihave Hsz' := (Entails.of_eq (show ((V d (cV L) (jV L)).loc cc1_scratch0 ↦{fullShare} gz : sProp 𝕄) = (sZ.view.loc (V d (cV L) (jV L)) ↦{fullShare} gz) from rfl)) $$ Hsz
  ihave Hsi' := (Entails.of_eq (show ((V d (cV L) (jV L)).loc cc1_scratch1 ↦{fullShare} gi : sProp 𝕄) = (sI.view.loc (V d (cV L) (jV L)) ↦{fullShare} gi) from rfl)) $$ Hsi
  ihave Hsp' := (Entails.of_eq (show ((V d (cV L) (jV L)).loc cc1_scratch2 ↦{fullShare} gp : sProp 𝕄) = (sP.view.loc (V d (cV L) (jV L)) ↦{fullShare} gp) from rfl)) $$ Hsp
  ihave Hso' := (Entails.of_eq (show ((V d (cV L) (jV L)).loc cc1_scratch3 ↦{fullShare} go : sProp 𝕄) = (sO.view.loc (V d (cV L) (jV L)) ↦{fullShare} go) from rfl)) $$ Hso
  sl_exec
  have hZ : View.write (Elt F) sZ.view gz (tile_bodyA.sl.dma0_1 L fz h1) Finset.univ = fun j => fz (cIx (wid L) (j 0).val) := by
    refine (View.write_whole_univ (Val := Elt F) (cc1_scratch0 : Ref sig .scVector) _ _).trans (funext fun j => ?_)
    refine congrArg fz (eq_cIx ?_)
    show (k1_off1 L) 0 + 1 * (j 0).val = _
    rw [k1_off1_eq L, wid_off]; simp
  have hI : View.write (Elt F) sI.view gi (tile_bodyA.sl.dma0_2 L fi h1) Finset.univ = fun j => fi (cIx (wid L) (j 0).val) := by
    refine (View.write_whole_univ (Val := Elt F) (cc1_scratch1 : Ref sig .scVector) _ _).trans (funext fun j => ?_)
    refine congrArg fi (eq_cIx ?_)
    show (k1_off1 L) 0 + 1 * (j 0).val = _
    rw [k1_off1_eq L, wid_off]; simp
  have hP : View.write (Elt F) sP.view gp (tile_bodyA.sl.dma0 fp) Finset.univ = fp :=
    View.write_whole_univ (Val := Elt F) (cc1_scratch2 : Ref sig .scVector) _ _
  have hT : (k1_t1_loop L).trips = 196 := by have e := trips1 L; rwa [if_pos hw] at e
  rw [hZ, hI, hP]
  sl_for (inv d L (fun j => fz (cIx (wid L) (j 0).val)) (fun j => fi (cIx (wid L) (j 0).val)) fp) $$ [Hsz' Hsi' Hsp' Hso']
  case region =>
    intro k _
    exact loop_step d L _ _ _ k fun j _ => hfi _
  · unfold inv
    isplitl [Hsz']; · iexact Hsz'
    isplitl [Hsi']; · iexact Hsi'
    isplitl [Hsp']; · iexact Hsp'
    iexists go; isplitr
    · ipureintro; intro j hj; omega
    · iexact Hso'
  iintro %_ HI
  unfold inv
  icases HI with ⟨Hsz', Hsi', Hsp', %fr, %hfr, Hso'⟩
  sl_for (fun _ _ => iprop(emp)) $$ []
  case region =>
    intro k _
    exact absurd (lt_of_lt_of_eq k.isLt (trips2 L)) (Nat.not_lt_zero _)
  · iempintro
  iintro %_ -
  sl_exec
  sl_step
  rw [set_oSl L h3]
  have hO' : ∀ j ∈ oSet (wid L), ((oSl L h3).view.writes (Elt F) fo [⟨Rect.whole S3136, tile_bodyA.sl.dma0_3 fr⟩]) j = alignOf fz fi fp j := by
    intro j hj
    rw [← set_oSl L h3] at hj
    obtain ⟨x, -, rfl⟩ := Finset.mem_map.mp hj
    have hx : (x 0).val < 3136 := (x 0).isLt
    refine (oSl_landed L h3 fo (tile_bodyA.sl.dma0_3 fr) x).trans ?_
    refine (hfr x (by rw [show Scf.trips (k1_t1_loop L).lb (k1_t1_loop L).ub (k1_t1_loop L).st = 196 from hT]; exact hx)).trans ?_
    have e : (oSl L h3).view.emb x = cIx (wid L) (x 0).val := eq_cIx (by
      show (k1_off7 L) 0 + 1 * (x 0).val = _
      rw [k1_off7_eq L, wid_off]; simp)
    rw [e]; rfl
  isplitl [Hz' Hi' Hp' Ho']
  · isplitl [Hz']; · iexact Hz'
    isplitl [Hi']; · iexact Hi'
    isplitl [Hp']; · iexact Hp'
    iapply (Entails.of_eq (pointsTo_congr (ℓ := oLoc d) (q := fullShare) hO'))
    iexact Ho'
  isplitl [Hsz' Hsi' Hsp' Hso' Hbufs]
  · isplitl [Hsz']; · iexists _; iexact Hsz'
    isplitl [Hsi']; · iexists _; iexact Hsi'
    isplitl [Hsp']; · iexists _; iexact Hsp'
    isplitl [Hso']; · iexists _; iexact Hso'
    iexact Hbufs
  isplitl [Hc0 Hc1 Hc2 Hc3 Hc4 Hc5 Hc6 Hsems]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hsems
  iexists _; isplitr; rotate_left
  · iexact HO
  · ipureintro; intro p hp
    simp only [Finset.mem_insert] at hp
    rcases hp with rfl | rfl | rfl | rfl | hp
    · exact .inr rfl
    · exact .inr rfl
    · exact .inr rfl
    · exact .inr rfl
    · exact .inl hp

/-- `tile_body` of the last task, whose chunk is short. -/
theorem tile_bodyB (hw : ¬ wid L < 31) (q : PosShare TreeShare) (fz : S100000.Idx → Elt F .f32) (fi : S100000.Idx → Elt F .i32) (fp : S256.Idx → Elt F .f32)
    (fo : S100000.Idx → Elt F .f32) (hfi : ∀ j, (fi j).toNat < 256)
    (O : CellTallies nD τ sig (HIx 1)) (W : Waits sig (HIx 1)) (hO : ∀ g, O g none = 0) :
    iprop((levAts (K (F := F)).L (K (F := F)).lev : sProp 𝕄)
        ∗ ((zLoc d ↦{q} fz) ∗ (iLoc d ↦{q} fi) ∗ (pLoc d ↦{q} fp) ∗ (oLoc d ↦[oSet (wid L)]{fullShare} fo))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L zV (Memref.isWhole_whole _) iV (Memref.isWhole_whole _) pV (Memref.isWhole_whole _) oV (Memref.isWhole_whole _)
            sZ (Memref.isWhole_whole _) sI (Memref.isWhole_whole _) sP (Memref.isWhole_whole _) sO (Memref.isWhole_whole _)
            cc1_scoped0 cc1_scoped1 cc1_scoped2 cc1_scoped3 cc1_scoped4 cc1_scoped5 cc1_scoped6)
          fun _ => iprop(((zLoc d ↦{q} fz) ∗ (iLoc d ↦{q} fi) ∗ (pLoc d ↦{q} fp) ∗ (oLoc d ↦[oSet (wid L)]{fullShare} alignOf fz fi fp))
            ∗ scopedBufs (V d (cV L) (jV L)) ∗ scopedSems0 (V d (cV L) (jV L))
            ∗ ∃ W', ⌜∀ p ∈ W', p ∈ W ∨ p.2 = none⌝ ∗ owes (V d (cV L) (jV L)) O W') := by
  have h1 : ¬ k1_cond1 L = 1#1 := fun h => hw ((cond1_iff L).mp h)
  have h2 : k1_cond2 L = 1#1 := (cond2_iff L).mpr hw
  have h3 : ¬ k1_cond3 L = 1#1 := fun h => hw ((cond3_iff L).mp h)
  have h4 : k1_cond4 L = 1#1 := (cond4_iff L).mpr hw
  simp only [cc1__sc_body_eq_skeleton]; unfold cc1__sc_body_skel
  rw [(K (F := F)).scopedBufs_V facts d (cV L) (jV L), SparseCore.Cfg.scopedSems0_V (Val := Elt F) d (cV L) (jV L), ownSems0_V, ownBufs_V]
  iintro ⟨#Hlv, ⟨Hz, Hi, Hp, Ho⟩, ⟨⟨%gz, Hsz⟩, ⟨%gi, Hsi⟩, ⟨%gp, Hsp⟩, ⟨%go, Hso⟩, Hbufs⟩, ⟨Hc0, Hc1, Hc2, Hc3, Hc4, Hc5, Hc6, Hsems⟩, HO⟩
  ihave Hmw := ((K (F := F)).mayWaits_none (thr := V d (cV L) (jV L)) hO) $$ Hlv
  ihave Hz' := (Entails.of_eq (show (zLoc d ↦{q} fz : sProp 𝕄) = (zV.view.loc (V d (cV L) (jV L)) ↦{q} fz) from rfl)) $$ Hz
  ihave Hi' := (Entails.of_eq (show (iLoc d ↦{q} fi : sProp 𝕄) = (iV.view.loc (V d (cV L) (jV L)) ↦{q} fi) from rfl)) $$ Hi
  ihave Hp' := (Entails.of_eq (show (pLoc d ↦{q} fp : sProp 𝕄) = (pV.view.loc (V d (cV L) (jV L)) ↦{q} fp) from rfl)) $$ Hp
  ihave Ho' := (Entails.of_eq (show (oLoc d ↦[oSet (wid L)]{fullShare} fo : sProp 𝕄) = ((oSl' L h4).view.loc (V d (cV L) (jV L)) ↦[(oSl' L h4).view.set]{fullShare} fo) from by rw [set_oSl'])) $$ Ho
  ihave Hsz' := (Entails.of_eq (show ((V d (cV L) (jV L)).loc cc1_scratch0 ↦{fullShare} gz : sProp 𝕄) = (sZ.view.loc (V d (cV L) (jV L)) ↦{fullShare} gz) from rfl)) $$ Hsz
  ihave Hsi' := (Entails.of_eq (show ((V d (cV L) (jV L)).loc cc1_scratch1 ↦{fullShare} gi : sProp 𝕄) = (sI.view.loc (V d (cV L) (jV L)) ↦{fullShare} gi) from rfl)) $$ Hsi
  ihave Hsp' := (Entails.of_eq (show ((V d (cV L) (jV L)).loc cc1_scratch2 ↦{fullShare} gp : sProp 𝕄) = (sP.view.loc (V d (cV L) (jV L)) ↦{fullShare} gp) from rfl)) $$ Hsp
  ihave Hso' := (Entails.of_eq (show ((V d (cV L) (jV L)).loc cc1_scratch3 ↦{fullShare} go : sProp 𝕄) = (sO.view.loc (V d (cV L) (jV L)) ↦{fullShare} go) from rfl)) $$ Hso
  sl_exec
  have hZ : ∀ j : S3136.Idx, (j 0).val < 2784 →
      (sZ.view.writes (Elt F) gz [⟨Rect.unit (s := S3136) ![0] S2784.size inb_S3136_S2784_0, tile_bodyB.sl.dma0_1 L fz h2⟩]) j = fz (cIx (wid L) (j 0).val) := by
    intro j hj
    refine (congrFun (View.read_whole (Val := Elt F) (cc1_scratch0 : Ref sig .scVector) _) j).symm.trans ?_
    refine (View.read_writes_cons_hit_of_coords (Val := Elt F) sZ.view gz (Rect.unit (s := S3136) ![0] S2784.size inb_S3136_S2784_0) _ []
      (fun | 0 => ⟨(j 0).val, hj⟩) j (fun a => ?_)).trans (congrArg fz (eq_cIx ?_))
    · obtain rfl : a = 0 := Subsingleton.elim _ _
      show (j 0).val = 0 + 1 * (j 0).val
      omega
    · show (k1_off2 L) 0 + 1 * (j 0).val = _
      rw [k1_off2_eq L, wid_off]; simp
  have hI : ∀ j : S3136.Idx, (j 0).val < 2784 →
      (sI.view.writes (Elt F) gi [⟨Rect.unit (s := S3136) ![0] S2784.size inb_S3136_S2784_0, tile_bodyB.sl.dma0_2 L fi h2⟩]) j = fi (cIx (wid L) (j 0).val) := by
    intro j hj
    refine (congrFun (View.read_whole (Val := Elt F) (cc1_scratch1 : Ref sig .scVector) _) j).symm.trans ?_
    refine (View.read_writes_cons_hit_of_coords (Val := Elt F) sI.view gi (Rect.unit (s := S3136) ![0] S2784.size inb_S3136_S2784_0) _ []
      (fun | 0 => ⟨(j 0).val, hj⟩) j (fun a => ?_)).trans (congrArg fi (eq_cIx ?_))
    · obtain rfl : a = 0 := Subsingleton.elim _ _
      show (j 0).val = 0 + 1 * (j 0).val
      omega
    · show (k1_off2 L) 0 + 1 * (j 0).val = _
      rw [k1_off2_eq L, wid_off]; simp
  have hP : View.write (Elt F) sP.view gp (tile_bodyB.sl.dma0 fp) Finset.univ = fp :=
    View.write_whole_univ (Val := Elt F) (cc1_scratch2 : Ref sig .scVector) _ _
  have hT : (k1_t1_loop L).trips = 174 := by have e := trips1 L; rwa [if_neg hw] at e
  rw [hP]
  generalize (sZ.view.writes (Elt F) gz [⟨Rect.unit (s := S3136) ![0] S2784.size inb_S3136_S2784_0, tile_bodyB.sl.dma0_1 L fz h2⟩]) = fZ at hZ ⊢
  generalize (sI.view.writes (Elt F) gi [⟨Rect.unit (s := S3136) ![0] S2784.size inb_S3136_S2784_0, tile_bodyB.sl.dma0_2 L fi h2⟩]) = fI at hI ⊢
  sl_for (inv d L fZ fI fp) $$ [Hsz' Hsi' Hsp' Hso']
  case region =>
    intro k _
    refine loop_step d L _ _ _ k fun j hj => ?_
    have hk : k.val < 174 := lt_of_lt_of_eq k.isLt hT
    rw [hI j (by omega)]; exact hfi _
  · unfold inv
    isplitl [Hsz']; · iexact Hsz'
    isplitl [Hsi']; · iexact Hsi'
    isplitl [Hsp']; · iexact Hsp'
    iexists go; isplitr
    · ipureintro; intro j hj; omega
    · iexact Hso'
  iintro %_ HI
  unfold inv
  icases HI with ⟨Hsz', Hsi', Hsp', %fr, %hfr, Hso'⟩
  sl_for (fun _ _ => iprop(emp)) $$ []
  case region =>
    intro k _
    exact absurd (lt_of_lt_of_eq k.isLt (trips2 L)) (Nat.not_lt_zero _)
  · iempintro
  iintro %_ -
  sl_exec
  sl_step
  rw [set_oSl' L h4]
  have hO' : ∀ j ∈ oSet (wid L), ((oSl' L h4).view.writes (Elt F) fo [⟨Rect.whole S2784, tile_bodyB.sl.dma0_3 fr⟩]) j = alignOf fz fi fp j := by
    intro j hj
    rw [← set_oSl' L h4] at hj
    obtain ⟨x, -, rfl⟩ := Finset.mem_map.mp hj
    have hx : (x 0).val < 2784 := (x 0).isLt
    let y : S3136.Idx := fun | 0 => ⟨(x 0).val, Nat.lt_trans hx (by decide)⟩
    have hy : (y 0).val = (x 0).val := rfl
    refine (oSl'_landed L h4 fo (tile_bodyB.sl.dma0_3 fr) x).trans ?_
    have e0 : tile_bodyB.sl.dma0_3 fr x = fr y := by
      refine congrArg fr (funext fun (a : Fin 1) => ?_)
      obtain rfl : a = 0 := Subsingleton.elim _ _
      apply Fin.ext
      show 0 + 1 * (x 0).val = (x 0).val
      omega
    rw [e0, hfr y (by rw [show Scf.trips (k1_t1_loop L).lb (k1_t1_loop L).ub (k1_t1_loop L).st = 174 from hT]; exact hx), hZ y hx, hI y hx]
    have e : (oSl' L h4).view.emb x = cIx (wid L) (x 0).val := eq_cIx (by
      show (k1_off8 L) 0 + 1 * (x 0).val = _
      rw [k1_off8_eq L, wid_off]; simp)
    rw [e]; rfl
  isplitl [Hz' Hi' Hp' Ho']
  · isplitl [Hz']; · iexact Hz'
    isplitl [Hi']; · iexact Hi'
    isplitl [Hp']; · iexact Hp'
    iapply (Entails.of_eq (pointsTo_congr (ℓ := oLoc d) (q := fullShare) hO'))
    iexact Ho'
  isplitl [Hsz' Hsi' Hsp' Hso' Hbufs]
  · isplitl [Hsz']; · iexists _; iexact Hsz'
    isplitl [Hsi']; · iexists _; iexact Hsi'
    isplitl [Hsp']; · iexists _; iexact Hsp'
    isplitl [Hso']; · iexists _; iexact Hso'
    iexact Hbufs
  isplitl [Hc0 Hc1 Hc2 Hc3 Hc4 Hc5 Hc6 Hsems]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hsems
  iexists _; isplitr; rotate_left
  · iexact HO
  · ipureintro; intro p hp
    simp only [Finset.mem_insert] at hp
    rcases hp with rfl | rfl | rfl | rfl | hp
    · exact .inr rfl
    · exact .inr rfl
    · exact .inr rfl
    · exact .inr rfl
    · exact .inl hp

/-- A task leaves its chunk of the result at the sums, and everything else as it found it. -/
theorem tile_body (q : PosShare TreeShare) (fz : S100000.Idx → Elt F .f32) (fi : S100000.Idx → Elt F .i32) (fp : S256.Idx → Elt F .f32)
    (fo : S100000.Idx → Elt F .f32) (hfi : ∀ j, (fi j).toNat < 256)
    (O : CellTallies nD τ sig (HIx 1)) (W : Waits sig (HIx 1)) (hO : ∀ g, O g none = 0) :
    iprop((levAts (K (F := F)).L (K (F := F)).lev : sProp 𝕄)
        ∗ ((zLoc d ↦{q} fz) ∗ (iLoc d ↦{q} fi) ∗ (pLoc d ↦{q} fp) ∗ (oLoc d ↦[oSet (wid L)]{fullShare} fo))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L zV (Memref.isWhole_whole _) iV (Memref.isWhole_whole _) pV (Memref.isWhole_whole _) oV (Memref.isWhole_whole _)
            sZ (Memref.isWhole_whole _) sI (Memref.isWhole_whole _) sP (Memref.isWhole_whole _) sO (Memref.isWhole_whole _)
            cc1_scoped0 cc1_scoped1 cc1_scoped2 cc1_scoped3 cc1_scoped4 cc1_scoped5 cc1_scoped6)
          fun _ => iprop(((zLoc d ↦{q} fz) ∗ (iLoc d ↦{q} fi) ∗ (pLoc d ↦{q} fp) ∗ (oLoc d ↦[oSet (wid L)]{fullShare} alignOf fz fi fp))
            ∗ scopedBufs (V d (cV L) (jV L)) ∗ scopedSems0 (V d (cV L) (jV L))
            ∗ ∃ W', ⌜∀ p ∈ W', p ∈ W ∨ p.2 = none⌝ ∗ owes (V d (cV L) (jV L)) O W') := by
  by_cases hw : wid L < 31
  · exact tile_bodyA d L hw q fz fi fp fo hfi O W hO
  · exact tile_bodyB d L hw q fz fi fp fo hfi O W hO

end Cert.Proof.KI

end
-- ==== Proof.KI.Body.lean ====
/-
  The TensorCore body's run at the first, a middle and the last block of nodes: what it leaves in each buffer.
-/
module

public import proofs.«01_k».proof.Proof.KI.Setup
public import Idealize.ShloMosaic.Lib.Pipeline.FrameBody
public import Idealize.ShloMosaic.Lib.VecWindow
public import Idealize.ShloMosaic.Lib.WordCmp

@[expose] public section

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The condition of the body's first branch. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (fun t => by
    have ht : t.val < 10 := Nat.lt_of_lt_of_eq t.isLt N_0
    have e0 : (grid0.coords t 0).val = t.val / 1 % 10 := Pipeline.Grid.coords_val t 0 (by decide) rfl
    simp only [cond0, e0]
    word_cmp
   : ∀ t : Fin grid0.N, cond0 (grid0.coords t) ↔ t.val = 0)
/-- The condition of the body's last branch. -/
abbrev cond1 (i : grid0.Coords) : Prop := (Scalar.cmpi .ne (Scalar.extui (Scalar.cmpi .eq (BitVec.ofNat 32 (i 0).val) 9#32)) 0#32) = 1#1
/-- It holds at the last point only. -/
theorem hcond1 : ∀ t : Fin cfg0.N, cond1 (grid0.coords t) ↔ t.val = 9 :=
  (fun t => by
    have ht : t.val < 10 := Nat.lt_of_lt_of_eq t.isLt N_0
    have e0 : (grid0.coords t 0).val = t.val / 1 % 10 := Pipeline.Grid.coords_val t 0 (by decide) rfl
    simp only [cond1, e0]
    word_cmp
   : ∀ t : Fin grid0.N, cond1 (grid0.coords t) ↔ t.val = 9)

/-! ## What the body computes -/

/-- The running maximum after a block, from what it was before. -/
def stepM (x0 : Vec F S10000x128 .f32) (x5 : Vec F S128x1 .bf16) (a : Vec F S256x1 .f32) : Vec F S256x1 .f32 := k0_pay13 x0 x5 a
/-- The running sum of the weights after a block. -/
def stepS (x0 : Vec F S10000x128 .f32) (x1 : Vec F S1x1x10000 .i32) (x5 : Vec F S128x1 .bf16) (a s : Vec F S256x1 .f32) : Vec F S256x1 .f32 :=
  k0_pay16 (k0_pay8 x1) (k0_pay11 x0 x5 a) (k0_pay12 x0 x5 a) (Scalar.ofBits .bf16 0x0000#16) (k0_pay14 x0 x5) s
/-- The running weighted sum of the features after a block. -/
def stepA (x0 : Vec F S10000x128 .f32) (x1 : Vec F S1x1x10000 .i32) (x3 : Vec F S128x128 .bf16) (x5 : Vec F S128x1 .bf16) (x6 : Vec F S1x128 .bf16)
    (a : Vec F S256x1 .f32) (u : Vec F S256x128 .f32) : Vec F S256x128 .f32 :=
  k0_pay17 (k0_pay5 x0) (k0_pay8 x1) (k0_pay11 x0 x5 a) (k0_pay12 x0 x5 a) (Scalar.ofBits .bf16 0x0000#16) (k0_pay14 x0 x5) x3 x6 u

/-- A load of a whole vector just stored reads it. -/
theorem cov1 {κ sp} (v : View sig κ sp S256x1 .f32) (w : Vec F S256x1 .f32) (L : List (View.Piece (Elt F) S256x1 .f32)) :
    v.readCov (⟨Rect.unit ![0, 0] ![256, 1] inb_S256x1_S256x1_0_0, w⟩ :: L) (Rect.unit ![0, 0] ![256, 1] inb_S256x1_S256x1_0_0).toLoadRect = w :=
  View.readCov_full v _ _ w L
/-- The same for a whole matrix. -/
theorem cov128 {κ sp} (v : View sig κ sp S256x128 .f32) (w : Vec F S256x128 .f32) (L : List (View.Piece (Elt F) S256x128 .f32)) :
    v.readCov (⟨Rect.unit ![0, 0] ![256, 128] inb_S256x128_S256x128_0_0, w⟩ :: L) (Rect.unit ![0, 0] ![256, 128] inb_S256x128_S256x128_0_0).toLoadRect = w :=
  View.readCov_full v _ _ w L

set_option maxHeartbeats 1000000 in
/-- The run at the first block: the accumulators are first set to their start, and the state's scores are stored. -/
theorem runA (c : Dev nD) (i : grid0.Coords) (arg1 : Memref sig .tc .vmem S10000x128 .f32) (harg1 : arg1.IsWhole) (arg2 : Memref sig .tc .vmem S1x1x10000 .i32) (harg2 : arg2.IsWhole) (arg3 : Memref sig .tc .vmem S256x128 .f32) (harg3 : arg3.IsWhole) (arg4 : Memref sig .tc .vmem S128x128 .bf16) (harg4 : arg4.IsWhole) (arg5 : Memref sig .tc .vmem S128x1 .f32) (harg5 : arg5.IsWhole) (arg6 : Memref sig .tc .vmem S128x1 .bf16) (harg6 : arg6.IsWhole) (arg7 : Memref sig .tc .vmem S1x128 .bf16) (harg7 : arg7.IsWhole) (arg8 : Memref sig .tc .vmem S1x1 .f32) (harg8 : arg8.IsWhole) (arg9 : Memref sig .tc .vmem S1x1x10000 .f32) (harg9 : arg9.IsWhole) (arg10 : Memref sig .tc .vmem S256x128 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (hc0 : cond0 i) (hc1 : ¬cond1 i)
    (x0 : Vec F S10000x128 .f32) (x1 : Vec F S1x1x10000 .i32) (x2 : Vec F S256x128 .f32) (x3 : Vec F S128x128 .bf16) (x4 : Vec F S128x1 .f32) (x5 : Vec F S128x1 .bf16) (x6 : Vec F S1x128 .bf16) (x7 : Vec F S1x1 .f32)  (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k0_pay7 x0 x5) ∗ owns (c : Thread nD τ) arg10 fullShare (stepA x0 x1 x3 x5 x6 k0_pay1 k0_pay3) ∗ owns (c : Thread nD τ) arg11 fullShare (k0_pay4 x2 x4 x7) ∗ owns (c : Thread nD τ) arg12 fullShare (stepM x0 x5 k0_pay1) ∗ owns (c : Thread nD τ) arg13 fullShare (stepS x0 x1 x5 k0_pay1 k0_pay2)) -∗ Q ⟨⟩))
      ⊢ wp frame (wpE (defs₀ (F := F)) 𝒱₀ c none) E (cc0__tc_body i arg1 harg1 arg2 harg2 arg3 harg3 arg4 harg4 arg5 harg5 arg6 harg6 arg7 harg7 arg8 harg8 arg9 harg9 arg10 harg10 arg11 harg11 arg12 harg12 arg13 harg13) Q := by
  simp only [cc0__tc_body_eq_skeleton]; unfold cc0__tc_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%dS0, %fS0, -, HS0⟩, ⟨%dS1, %fS1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  have e1 : View.readAt (Elt F) arg1.view (Rect.unit ![0, 0] ![10000, 128] inb_S10000x128_S10000x128_0_0).toLoadRect (harg1.unread x0) = x0 := (View.readAt_full arg1.view _ _).trans (harg1.read_unread x0)
  have e2 : View.readAt (Elt F) arg2.view (Rect.unit ![0, 0, 0] ![1, 1, 10000] inb_S1x1x10000_S1x1x10000_0_0_0).toLoadRect (harg2.unread x1) = x1 := (View.readAt_full arg2.view _ _).trans (harg2.read_unread x1)
  have e3 : View.readAt (Elt F) arg3.view (Rect.unit ![0, 0] ![256, 128] inb_S256x128_S256x128_0_0).toLoadRect (harg3.unread x2) = x2 := (View.readAt_full arg3.view _ _).trans (harg3.read_unread x2)
  have e4 : View.readAt (Elt F) arg4.view (Rect.unit ![0, 0] ![128, 128] inb_S128x128_S128x128_0_0).toLoadRect (harg4.unread x3) = x3 := (View.readAt_full arg4.view _ _).trans (harg4.read_unread x3)
  have e5 : View.readAt (Elt F) arg5.view (Rect.unit ![0, 0] ![128, 1] inb_S128x1_S128x1_0_0).toLoadRect (harg5.unread x4) = x4 := (View.readAt_full arg5.view _ _).trans (harg5.read_unread x4)
  have e6 : View.readAt (Elt F) arg6.view (Rect.unit ![0, 0] ![128, 1] inb_S128x1_S128x1_0_0).toLoadRect (harg6.unread x5) = x5 := (View.readAt_full arg6.view _ _).trans (harg6.read_unread x5)
  have e7 : View.readAt (Elt F) arg7.view (Rect.unit ![0, 0] ![1, 128] inb_S1x128_S1x128_0_0).toLoadRect (harg7.unread x6) = x6 := (View.readAt_full arg7.view _ _).trans (harg7.read_unread x6)
  have e8 : View.readAt (Elt F) arg8.view (Rect.unit ![0, 0] ![1, 1] inb_S1x1_S1x1_0_0).toLoadRect (harg8.unread x7) = x7 := (View.readAt_full arg8.view _ _).trans (harg8.read_unread x7)
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro; refine (View.read_writes_full _ _ _ _ _).trans ?_; (try delta runA.sl.r); (try delta runA.sl.r_1); (try delta runA.sl.r_2); (try delta runA.sl.r_3); (try delta runA.sl.r_4); (try delta runA.sl.r_5); (try delta runA.sl.v20); (try delta runA.sl.v39); (try delta runA.sl.v61); (try delta runA.sl.v73); (try delta runA.sl.v75); (try delta runA.sl.cst_15); (try delta runA.sl.H9_1); (try delta runA.sl.HS0_1); (try delta runA.sl.HS1_1); (try simp only [e1, e2, e3, e4, e5, e6, e7, e8, cov1, cov128]); first | done | rfl
  isplitl [H9]
  · iexists _; isplitr; swap; · iexact H9
    ipureintro; refine (View.read_writes_full _ _ _ _ _).trans ?_; (try delta runA.sl.r); (try delta runA.sl.r_1); (try delta runA.sl.r_2); (try delta runA.sl.r_3); (try delta runA.sl.r_4); (try delta runA.sl.r_5); (try delta runA.sl.v20); (try delta runA.sl.v39); (try delta runA.sl.v61); (try delta runA.sl.v73); (try delta runA.sl.v75); (try delta runA.sl.cst_15); (try delta runA.sl.H9_1); (try delta runA.sl.HS0_1); (try delta runA.sl.HS1_1); (try simp only [e1, e2, e3, e4, e5, e6, e7, e8, cov1, cov128]); first | done | rfl
  isplitl [H10]
  · iexists _; isplitr; swap; · iexact H10
    ipureintro; refine (View.read_writes_full _ _ _ _ _).trans ?_; (try delta runA.sl.r); (try delta runA.sl.r_1); (try delta runA.sl.r_2); (try delta runA.sl.r_3); (try delta runA.sl.r_4); (try delta runA.sl.r_5); (try delta runA.sl.v20); (try delta runA.sl.v39); (try delta runA.sl.v61); (try delta runA.sl.v73); (try delta runA.sl.v75); (try delta runA.sl.cst_15); (try delta runA.sl.H9_1); (try delta runA.sl.HS0_1); (try delta runA.sl.HS1_1); (try simp only [e1, e2, e3, e4, e5, e6, e7, e8, cov1, cov128]); first | done | rfl
  isplitl [HS0]
  · iexists _; isplitr; swap; · iexact HS0
    ipureintro; refine (View.read_writes_full _ _ _ _ _).trans ?_; (try delta runA.sl.r); (try delta runA.sl.r_1); (try delta runA.sl.r_2); (try delta runA.sl.r_3); (try delta runA.sl.r_4); (try delta runA.sl.r_5); (try delta runA.sl.v20); (try delta runA.sl.v39); (try delta runA.sl.v61); (try delta runA.sl.v73); (try delta runA.sl.v75); (try delta runA.sl.cst_15); (try delta runA.sl.H9_1); (try delta runA.sl.HS0_1); (try delta runA.sl.HS1_1); (try simp only [e1, e2, e3, e4, e5, e6, e7, e8, cov1, cov128]); first | done | rfl
  iexists _; isplitr; swap; · iexact HS1
  ipureintro; refine (View.read_writes_full _ _ _ _ _).trans ?_; (try delta runA.sl.r); (try delta runA.sl.r_1); (try delta runA.sl.r_2); (try delta runA.sl.r_3); (try delta runA.sl.r_4); (try delta runA.sl.r_5); (try delta runA.sl.v20); (try delta runA.sl.v39); (try delta runA.sl.v61); (try delta runA.sl.v73); (try delta runA.sl.v75); (try delta runA.sl.cst_15); (try delta runA.sl.H9_1); (try delta runA.sl.HS0_1); (try delta runA.sl.HS1_1); (try simp only [e1, e2, e3, e4, e5, e6, e7, e8, cov1, cov128]); first | done | rfl

set_option maxHeartbeats 1000000 in
/-- The run at a middle block: the scores, the three accumulators stepped; the state's scores are kept. -/
theorem runB (c : Dev nD) (i : grid0.Coords) (arg1 : Memref sig .tc .vmem S10000x128 .f32) (harg1 : arg1.IsWhole) (arg2 : Memref sig .tc .vmem S1x1x10000 .i32) (harg2 : arg2.IsWhole) (arg3 : Memref sig .tc .vmem S256x128 .f32) (harg3 : arg3.IsWhole) (arg4 : Memref sig .tc .vmem S128x128 .bf16) (harg4 : arg4.IsWhole) (arg5 : Memref sig .tc .vmem S128x1 .f32) (harg5 : arg5.IsWhole) (arg6 : Memref sig .tc .vmem S128x1 .bf16) (harg6 : arg6.IsWhole) (arg7 : Memref sig .tc .vmem S1x128 .bf16) (harg7 : arg7.IsWhole) (arg8 : Memref sig .tc .vmem S1x1 .f32) (harg8 : arg8.IsWhole) (arg9 : Memref sig .tc .vmem S1x1x10000 .f32) (harg9 : arg9.IsWhole) (arg10 : Memref sig .tc .vmem S256x128 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (hc0 : ¬cond0 i) (hc1 : ¬cond1 i)
    (x0 : Vec F S10000x128 .f32) (x1 : Vec F S1x1x10000 .i32) (x2 : Vec F S256x128 .f32) (x3 : Vec F S128x128 .bf16) (x4 : Vec F S128x1 .f32) (x5 : Vec F S128x1 .bf16) (x6 : Vec F S1x128 .bf16) (x7 : Vec F S1x1 .f32) (u : Vec F S256x128 .f32) (y a s : Vec F S256x1 .f32) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare u ∗ owns (c : Thread nD τ) arg11 fullShare y ∗ owns (c : Thread nD τ) arg12 fullShare a ∗ owns (c : Thread nD τ) arg13 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k0_pay7 x0 x5) ∗ owns (c : Thread nD τ) arg10 fullShare (stepA x0 x1 x3 x5 x6 a u) ∗ owns (c : Thread nD τ) arg11 fullShare y ∗ owns (c : Thread nD τ) arg12 fullShare (stepM x0 x5 a) ∗ owns (c : Thread nD τ) arg13 fullShare (stepS x0 x1 x5 a s)) -∗ Q ⟨⟩))
      ⊢ wp frame (wpE (defs₀ (F := F)) 𝒱₀ c none) E (cc0__tc_body i arg1 harg1 arg2 harg2 arg3 harg3 arg4 harg4 arg5 harg5 arg6 harg6 arg7 harg7 arg8 harg8 arg9 harg9 arg10 harg10 arg11 harg11 arg12 harg12 arg13 harg13) Q := by
  simp only [cc0__tc_body_eq_skeleton]; unfold cc0__tc_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fS0, %hfS0, HS0⟩, ⟨%fS1, %hfS1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10; obtain rfl := harg12.eq_unread hfS0; obtain rfl := harg13.eq_unread hfS1
  have e1 : View.readAt (Elt F) arg1.view (Rect.unit ![0, 0] ![10000, 128] inb_S10000x128_S10000x128_0_0).toLoadRect (harg1.unread x0) = x0 := (View.readAt_full arg1.view _ _).trans (harg1.read_unread x0)
  have e2 : View.readAt (Elt F) arg2.view (Rect.unit ![0, 0, 0] ![1, 1, 10000] inb_S1x1x10000_S1x1x10000_0_0_0).toLoadRect (harg2.unread x1) = x1 := (View.readAt_full arg2.view _ _).trans (harg2.read_unread x1)
  have e3 : View.readAt (Elt F) arg3.view (Rect.unit ![0, 0] ![256, 128] inb_S256x128_S256x128_0_0).toLoadRect (harg3.unread x2) = x2 := (View.readAt_full arg3.view _ _).trans (harg3.read_unread x2)
  have e4 : View.readAt (Elt F) arg4.view (Rect.unit ![0, 0] ![128, 128] inb_S128x128_S128x128_0_0).toLoadRect (harg4.unread x3) = x3 := (View.readAt_full arg4.view _ _).trans (harg4.read_unread x3)
  have e5 : View.readAt (Elt F) arg5.view (Rect.unit ![0, 0] ![128, 1] inb_S128x1_S128x1_0_0).toLoadRect (harg5.unread x4) = x4 := (View.readAt_full arg5.view _ _).trans (harg5.read_unread x4)
  have e6 : View.readAt (Elt F) arg6.view (Rect.unit ![0, 0] ![128, 1] inb_S128x1_S128x1_0_0).toLoadRect (harg6.unread x5) = x5 := (View.readAt_full arg6.view _ _).trans (harg6.read_unread x5)
  have e7 : View.readAt (Elt F) arg7.view (Rect.unit ![0, 0] ![1, 128] inb_S1x128_S1x128_0_0).toLoadRect (harg7.unread x6) = x6 := (View.readAt_full arg7.view _ _).trans (harg7.read_unread x6)
  have e8 : View.readAt (Elt F) arg8.view (Rect.unit ![0, 0] ![1, 1] inb_S1x1_S1x1_0_0).toLoadRect (harg8.unread x7) = x7 := (View.readAt_full arg8.view _ _).trans (harg8.read_unread x7)
  have e10 : View.readAt (Elt F) arg10.view (Rect.unit ![0, 0] ![256, 128] inb_S256x128_S256x128_0_0).toLoadRect (harg10.unread u) = u := (View.readAt_full arg10.view _ _).trans (harg10.read_unread u)
  have e12 : View.readAt (Elt F) arg12.view (Rect.unit ![0, 0] ![256, 1] inb_S256x1_S256x1_0_0).toLoadRect (harg12.unread a) = a := (View.readAt_full arg12.view _ _).trans (harg12.read_unread a)
  have e13 : View.readAt (Elt F) arg13.view (Rect.unit ![0, 0] ![256, 1] inb_S256x1_S256x1_0_0).toLoadRect (harg13.unread s) = s := (View.readAt_full arg13.view _ _).trans (harg13.read_unread s)
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro; refine (View.read_writes_full _ _ _ _ _).trans ?_; (try delta runB.sl.r); (try delta runB.sl.r_1); (try delta runB.sl.r_2); (try delta runB.sl.r_3); (try delta runB.sl.r_4); (try delta runB.sl.r_5); (try delta runB.sl.v20); (try delta runB.sl.v39); (try delta runB.sl.v61); (try delta runB.sl.v73); (try delta runB.sl.v75); (try delta runB.sl.cst_15); (try delta runB.sl.H9_1); (try delta runB.sl.HS0_1); (try delta runB.sl.HS1_1); (try simp only [e1, e2, e3, e4, e5, e6, e7, e8, e10, e12, e13, cov1, cov128]); first | done | rfl
  isplitl [H9]
  · iexists _; isplitr; swap; · iexact H9
    ipureintro; refine (View.read_writes_full _ _ _ _ _).trans ?_; (try delta runB.sl.r); (try delta runB.sl.r_1); (try delta runB.sl.r_2); (try delta runB.sl.r_3); (try delta runB.sl.r_4); (try delta runB.sl.r_5); (try delta runB.sl.v20); (try delta runB.sl.v39); (try delta runB.sl.v61); (try delta runB.sl.v73); (try delta runB.sl.v75); (try delta runB.sl.cst_15); (try delta runB.sl.H9_1); (try delta runB.sl.HS0_1); (try delta runB.sl.HS1_1); (try simp only [e1, e2, e3, e4, e5, e6, e7, e8, e10, e12, e13, cov1, cov128]); first | done | rfl
  isplitl [H10]
  · iexists _; isplitr; swap; · iexact H10
    ipureintro; exact harg11.read_unread _
  isplitl [HS0]
  · iexists _; isplitr; swap; · iexact HS0
    ipureintro; refine (View.read_writes_full _ _ _ _ _).trans ?_; (try delta runB.sl.r); (try delta runB.sl.r_1); (try delta runB.sl.r_2); (try delta runB.sl.r_3); (try delta runB.sl.r_4); (try delta runB.sl.r_5); (try delta runB.sl.v20); (try delta runB.sl.v39); (try delta runB.sl.v61); (try delta runB.sl.v73); (try delta runB.sl.v75); (try delta runB.sl.cst_15); (try delta runB.sl.H9_1); (try delta runB.sl.HS0_1); (try delta runB.sl.HS1_1); (try simp only [e1, e2, e3, e4, e5, e6, e7, e8, e10, e12, e13, cov1, cov128]); first | done | rfl
  iexists _; isplitr; swap; · iexact HS1
  ipureintro; refine (View.read_writes_full _ _ _ _ _).trans ?_; (try delta runB.sl.r); (try delta runB.sl.r_1); (try delta runB.sl.r_2); (try delta runB.sl.r_3); (try delta runB.sl.r_4); (try delta runB.sl.r_5); (try delta runB.sl.v20); (try delta runB.sl.v39); (try delta runB.sl.v61); (try delta runB.sl.v73); (try delta runB.sl.v75); (try delta runB.sl.cst_15); (try delta runB.sl.H9_1); (try delta runB.sl.HS0_1); (try delta runB.sl.HS1_1); (try simp only [e1, e2, e3, e4, e5, e6, e7, e8, e10, e12, e13, cov1, cov128]); first | done | rfl

set_option maxHeartbeats 1000000 in
/-- The run at the last block: after the step the sum of the features is divided by the sum of the weights and goes through the last unit. -/
theorem runC (c : Dev nD) (i : grid0.Coords) (arg1 : Memref sig .tc .vmem S10000x128 .f32) (harg1 : arg1.IsWhole) (arg2 : Memref sig .tc .vmem S1x1x10000 .i32) (harg2 : arg2.IsWhole) (arg3 : Memref sig .tc .vmem S256x128 .f32) (harg3 : arg3.IsWhole) (arg4 : Memref sig .tc .vmem S128x128 .bf16) (harg4 : arg4.IsWhole) (arg5 : Memref sig .tc .vmem S128x1 .f32) (harg5 : arg5.IsWhole) (arg6 : Memref sig .tc .vmem S128x1 .bf16) (harg6 : arg6.IsWhole) (arg7 : Memref sig .tc .vmem S1x128 .bf16) (harg7 : arg7.IsWhole) (arg8 : Memref sig .tc .vmem S1x1 .f32) (harg8 : arg8.IsWhole) (arg9 : Memref sig .tc .vmem S1x1x10000 .f32) (harg9 : arg9.IsWhole) (arg10 : Memref sig .tc .vmem S256x128 .f32) (harg10 : arg10.IsWhole) (arg11 : Memref sig .tc .vmem S256x1 .f32) (harg11 : arg11.IsWhole) (arg12 : Memref sig .tc .vmem S256x1 .f32) (harg12 : arg12.IsWhole) (arg13 : Memref sig .tc .vmem S256x1 .f32) (harg13 : arg13.IsWhole) (hc0 : ¬cond0 i) (hc1 : cond1 i)
    (x0 : Vec F S10000x128 .f32) (x1 : Vec F S1x1x10000 .i32) (x2 : Vec F S256x128 .f32) (x3 : Vec F S128x128 .bf16) (x4 : Vec F S128x1 .f32) (x5 : Vec F S128x1 .bf16) (x6 : Vec F S1x128 .bf16) (x7 : Vec F S1x1 .f32) (u : Vec F S256x128 .f32) (y a s : Vec F S256x1 .f32) (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare u ∗ owns (c : Thread nD τ) arg11 fullShare y ∗ owns (c : Thread nD τ) arg12 fullShare a ∗ owns (c : Thread nD τ) arg13 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k0_pay7 x0 x5) ∗ owns (c : Thread nD τ) arg10 fullShare (k0_pay18 (stepA x0 x1 x3 x5 x6 a u) (stepS x0 x1 x5 a s)) ∗ owns (c : Thread nD τ) arg11 fullShare y ∗ owns (c : Thread nD τ) arg12 fullShare (stepM x0 x5 a) ∗ owns (c : Thread nD τ) arg13 fullShare (stepS x0 x1 x5 a s)) -∗ Q ⟨⟩))
      ⊢ wp frame (wpE (defs₀ (F := F)) 𝒱₀ c none) E (cc0__tc_body i arg1 harg1 arg2 harg2 arg3 harg3 arg4 harg4 arg5 harg5 arg6 harg6 arg7 harg7 arg8 harg8 arg9 harg9 arg10 harg10 arg11 harg11 arg12 harg12 arg13 harg13) Q := by
  simp only [cc0__tc_body_eq_skeleton]; unfold cc0__tc_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%fS0, %hfS0, HS0⟩, ⟨%fS1, %hfS1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hf10; obtain rfl := harg12.eq_unread hfS0; obtain rfl := harg13.eq_unread hfS1
  have e1 : View.readAt (Elt F) arg1.view (Rect.unit ![0, 0] ![10000, 128] inb_S10000x128_S10000x128_0_0).toLoadRect (harg1.unread x0) = x0 := (View.readAt_full arg1.view _ _).trans (harg1.read_unread x0)
  have e2 : View.readAt (Elt F) arg2.view (Rect.unit ![0, 0, 0] ![1, 1, 10000] inb_S1x1x10000_S1x1x10000_0_0_0).toLoadRect (harg2.unread x1) = x1 := (View.readAt_full arg2.view _ _).trans (harg2.read_unread x1)
  have e3 : View.readAt (Elt F) arg3.view (Rect.unit ![0, 0] ![256, 128] inb_S256x128_S256x128_0_0).toLoadRect (harg3.unread x2) = x2 := (View.readAt_full arg3.view _ _).trans (harg3.read_unread x2)
  have e4 : View.readAt (Elt F) arg4.view (Rect.unit ![0, 0] ![128, 128] inb_S128x128_S128x128_0_0).toLoadRect (harg4.unread x3) = x3 := (View.readAt_full arg4.view _ _).trans (harg4.read_unread x3)
  have e5 : View.readAt (Elt F) arg5.view (Rect.unit ![0, 0] ![128, 1] inb_S128x1_S128x1_0_0).toLoadRect (harg5.unread x4) = x4 := (View.readAt_full arg5.view _ _).trans (harg5.read_unread x4)
  have e6 : View.readAt (Elt F) arg6.view (Rect.unit ![0, 0] ![128, 1] inb_S128x1_S128x1_0_0).toLoadRect (harg6.unread x5) = x5 := (View.readAt_full arg6.view _ _).trans (harg6.read_unread x5)
  have e7 : View.readAt (Elt F) arg7.view (Rect.unit ![0, 0] ![1, 128] inb_S1x128_S1x128_0_0).toLoadRect (harg7.unread x6) = x6 := (View.readAt_full arg7.view _ _).trans (harg7.read_unread x6)
  have e8 : View.readAt (Elt F) arg8.view (Rect.unit ![0, 0] ![1, 1] inb_S1x1_S1x1_0_0).toLoadRect (harg8.unread x7) = x7 := (View.readAt_full arg8.view _ _).trans (harg8.read_unread x7)
  have e10 : View.readAt (Elt F) arg10.view (Rect.unit ![0, 0] ![256, 128] inb_S256x128_S256x128_0_0).toLoadRect (harg10.unread u) = u := (View.readAt_full arg10.view _ _).trans (harg10.read_unread u)
  have e12 : View.readAt (Elt F) arg12.view (Rect.unit ![0, 0] ![256, 1] inb_S256x1_S256x1_0_0).toLoadRect (harg12.unread a) = a := (View.readAt_full arg12.view _ _).trans (harg12.read_unread a)
  have e13 : View.readAt (Elt F) arg13.view (Rect.unit ![0, 0] ![256, 1] inb_S256x1_S256x1_0_0).toLoadRect (harg13.unread s) = s := (View.readAt_full arg13.view _ _).trans (harg13.read_unread s)
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro; refine (View.read_writes_full _ _ _ _ _).trans ?_; (try delta runC.sl.r); (try delta runC.sl.r_1); (try delta runC.sl.r_2); (try delta runC.sl.r_3); (try delta runC.sl.r_4); (try delta runC.sl.r_5); (try delta runC.sl.v20); (try delta runC.sl.v39); (try delta runC.sl.v61); (try delta runC.sl.v73); (try delta runC.sl.v75); (try delta runC.sl.cst_15); (try delta runC.sl.H9_1); (try delta runC.sl.HS0_1); (try delta runC.sl.HS1_1); (try simp only [e1, e2, e3, e4, e5, e6, e7, e8, e10, e12, e13, cov1, cov128]); first | done | rfl
  isplitl [H9]
  · iexists _; isplitr; swap; · iexact H9
    ipureintro; refine (View.read_writes_full _ _ _ _ _).trans ?_; (try delta runC.sl.r); (try delta runC.sl.r_1); (try delta runC.sl.r_2); (try delta runC.sl.r_3); (try delta runC.sl.r_4); (try delta runC.sl.r_5); (try delta runC.sl.v20); (try delta runC.sl.v39); (try delta runC.sl.v61); (try delta runC.sl.v73); (try delta runC.sl.v75); (try delta runC.sl.cst_15); (try delta runC.sl.H9_1); (try delta runC.sl.HS0_1); (try delta runC.sl.HS1_1); (try simp only [e1, e2, e3, e4, e5, e6, e7, e8, e10, e12, e13, cov1, cov128]); first | done | rfl
  isplitl [H10]
  · iexists _; isplitr; swap; · iexact H10
    ipureintro; exact harg11.read_unread _
  isplitl [HS0]
  · iexists _; isplitr; swap; · iexact HS0
    ipureintro; refine (View.read_writes_full _ _ _ _ _).trans ?_; (try delta runC.sl.r); (try delta runC.sl.r_1); (try delta runC.sl.r_2); (try delta runC.sl.r_3); (try delta runC.sl.r_4); (try delta runC.sl.r_5); (try delta runC.sl.v20); (try delta runC.sl.v39); (try delta runC.sl.v61); (try delta runC.sl.v73); (try delta runC.sl.v75); (try delta runC.sl.cst_15); (try delta runC.sl.H9_1); (try delta runC.sl.HS0_1); (try delta runC.sl.HS1_1); (try simp only [e1, e2, e3, e4, e5, e6, e7, e8, e10, e12, e13, cov1, cov128]); first | done | rfl
  iexists _; isplitr; swap; · iexact HS1
  ipureintro; refine (View.read_writes_full _ _ _ _ _).trans ?_; (try delta runC.sl.r); (try delta runC.sl.r_1); (try delta runC.sl.r_2); (try delta runC.sl.r_3); (try delta runC.sl.r_4); (try delta runC.sl.r_5); (try delta runC.sl.v20); (try delta runC.sl.v39); (try delta runC.sl.v61); (try delta runC.sl.v73); (try delta runC.sl.v75); (try delta runC.sl.cst_15); (try delta runC.sl.H9_1); (try delta runC.sl.HS0_1); (try delta runC.sl.HS1_1); (try simp only [e1, e2, e3, e4, e5, e6, e7, e8, e10, e12, e13, cov1, cov128]); first | done | rfl

end Cert.Proof.KI

end
-- ==== Proof.KI.Region.lean ====
/-
  The TensorCore region's proof data: each window's blocks, the running accumulators, and the body's obligation at every point.
-/
module

public import proofs.«01_k».proof.Proof.KI.Body
public import Idealize.ShloMosaic.Lib.Pipeline.Frame
public import Idealize.ShloMosaic.Lib.Ring

@[expose] public section

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F] [Named F]

local notation "𝕄" => MT nD τ sig (HIx 1) (Elt F) ℕ UU ℕ

/-- What every TensorCore buffer holds when the region is entered. -/
abbrev Entry (F : FTy → Type) [FloatOps F] := (c : Dev nD) → (b : Ref sig .tc) → Buf (Elt F) ((c : Thread nD τ).loc b)

variable (V : Entry F)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point. -/
theorem before_0_of {c : Dev nD} (dat : Dat τ (Elt F) (HIx 1) ℕ UU ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point. -/
theorem before_1_of {c : Dev nD} (dat : Dat τ (Elt F) (HIx 1) ℕ UU ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point. -/
theorem before_2_of {c : Dev nD} (dat : Dat τ (Elt F) (HIx 1) ℕ UU ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point. -/
theorem before_3_of {c : Dev nD} (dat : Dat τ (Elt F) (HIx 1) ℕ UU ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point. -/
theorem before_4_of {c : Dev nD} (dat : Dat τ (Elt F) (HIx 1) ℕ UU ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's buffer holds its block at every point. -/
theorem before_5_of {c : Dev nD} (dat : Dat τ (Elt F) (HIx 1) ℕ UU ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's buffer holds its block at every point. -/
theorem before_6_of {c : Dev nD} (dat : Dat τ (Elt F) (HIx 1) ℕ UU ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's buffer holds its block at every point. -/
theorem before_7_of {c : Dev nD} (dat : Dat τ (Elt F) (HIx 1) ℕ UU ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The running maximum, the running sum of the weights and the running weighted sum of the features after the first `n` blocks. -/
def acc (c : Dev nD) : ℕ → Vec F S256x1 .f32 × Vec F S256x1 .f32 × Vec F S256x128 .f32
  | 0 => (k0_pay1, k0_pay2, k0_pay3)
  | n + 1 =>
    if h : n < cfg0.N then
      (stepM (iblk V c 0 ⟨n, h⟩) (iblk V c 5 ⟨n, h⟩) (acc c n).1,
       stepS (iblk V c 0 ⟨n, h⟩) (iblk V c 1 ⟨n, h⟩) (iblk V c 5 ⟨n, h⟩) (acc c n).1 (acc c n).2.1,
       stepA (iblk V c 0 ⟨n, h⟩) (iblk V c 1 ⟨n, h⟩) (iblk V c 3 ⟨n, h⟩) (iblk V c 5 ⟨n, h⟩) (iblk V c 6 ⟨n, h⟩) (acc c n).1 (acc c n).2.2)
    else acc c n

theorem acc_succ (c : Dev nD) (t : Fin cfg0.N) : acc V c (t.val + 1) =
    (stepM (iblk V c 0 t) (iblk V c 5 t) (acc V c t.val).1,
     stepS (iblk V c 0 t) (iblk V c 1 t) (iblk V c 5 t) (acc V c t.val).1 (acc V c t.val).2.1,
     stepA (iblk V c 0 t) (iblk V c 1 t) (iblk V c 3 t) (iblk V c 5 t) (iblk V c 6 t) (acc V c t.val).1 (acc V c t.val).2.2) := by
  rw [acc, dif_pos t.isLt]

/-- The first grid point. -/
abbrev pt0 : Fin cfg0.N := ⟨0, Nat.lt_of_lt_of_eq (by decide) N_0.symm⟩

/-- The states' scores. -/
def scores (c : Dev nD) : Vec F S256x1 .f32 := k0_pay4 (iblk V c 2 pt0) (iblk V c 4 pt0) (iblk V c 7 pt0)

/-- The features' output after a block: the running sum, after the last block finished. -/
def outA (c : Dev nD) (t : Fin cfg0.N) : Vec F S256x128 .f32 :=
  if t.val = 9 then k0_pay18 (acc V c (t.val + 1)).2.2 (acc V c (t.val + 1)).2.1 else (acc V c (t.val + 1)).2.2

/-- The two carried buffers, each whole. -/
abbrev scM : Memref sig .tc .vmem S256x1 .f32 := Memref.whole cc0_scratch0
abbrev scS : Memref sig .tc .vmem S256x1 .f32 := Memref.whole cc0_scratch1

/-- The invariant before point `n`: the carried buffers at the accumulators. -/
def Phi (c : Dev nD) : ℕ → sProp 𝕄
  | 0 => Pipeline.scopedRest spec0 c
  | n + 1 => iprop(owns (c : Thread nD τ) scM fullShare (acc V c (n + 1)).1 ∗ owns (c : Thread nD τ) scS fullShare (acc V c (n + 1)).2.1)

theorem Phi_pos (c : Dev nD) (n : ℕ) (h : n ≠ 0) : Phi V c n =
    iprop(owns (c : Thread nD τ) scM fullShare (acc V c n).1 ∗ owns (c : Thread nD τ) scS fullShare (acc V c n).2.1) := by
  cases n with
  | zero => exact absurd rfl h
  | succ n => rfl

/-- The region's proof data: inputs at their blocks, outputs at what the body leaves, the sequencers' starts still owed. -/
def dats (_ : Fin 1) (c : Dev nD) : Dat τ (Elt F) (HIx 1) ℕ UU ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => k0_pay7 (iblk V c 0 t) (iblk V c 5 t)
    | ⟨9, _⟩ => outA V c t
    | ⟨10, _⟩ => scores V c
  Φ t := Phi V c t.val
  q _ := fullShare
  owed _ := (K (F := F)).Otc c 0
  recorded _ := {p | (K (F := F)).lev ((c : Thread nD τ), p.1) p.2 ≤ 0}

theorem A_eq (c : Dev nD) (w : Fin cfg0.W) : (dats V 0 c).A w = V c (Pipeline.arrRef spec0 w) := by dsimp only [dats]
theorem Phi_at (c : Dev nD) (t : Fin (cfg0.N + 1)) : (dats V 0 c).Φ t = Phi V c t.val := by dsimp only [dats]
theorem after_0 (c : Dev nD) (t : Fin cfg0.N) : (dats V 0 c).after 0 t = iblk V c 0 t := by dsimp only [dats]
theorem after_1 (c : Dev nD) (t : Fin cfg0.N) : (dats V 0 c).after 1 t = iblk V c 1 t := by dsimp only [dats]
theorem after_2 (c : Dev nD) (t : Fin cfg0.N) : (dats V 0 c).after 2 t = iblk V c 2 t := by dsimp only [dats]
theorem after_3 (c : Dev nD) (t : Fin cfg0.N) : (dats V 0 c).after 3 t = iblk V c 3 t := by dsimp only [dats]
theorem after_4 (c : Dev nD) (t : Fin cfg0.N) : (dats V 0 c).after 4 t = iblk V c 4 t := by dsimp only [dats]
theorem after_5 (c : Dev nD) (t : Fin cfg0.N) : (dats V 0 c).after 5 t = iblk V c 5 t := by dsimp only [dats]
theorem after_6 (c : Dev nD) (t : Fin cfg0.N) : (dats V 0 c).after 6 t = iblk V c 6 t := by dsimp only [dats]
theorem after_7 (c : Dev nD) (t : Fin cfg0.N) : (dats V 0 c).after 7 t = iblk V c 7 t := by dsimp only [dats]
theorem after_8 (c : Dev nD) (t : Fin cfg0.N) : (dats V 0 c).after 8 t = k0_pay7 (iblk V c 0 t) (iblk V c 5 t) := by dsimp only [dats]
theorem after_9 (c : Dev nD) (t : Fin cfg0.N) : (dats V 0 c).after 9 t = outA V c t := by dsimp only [dats]
theorem after_10 (c : Dev nD) (t : Fin cfg0.N) : (dats V 0 c).after 10 t = scores V c := by dsimp only [dats]
theorem before_0 (c : Dev nD) (t : Fin cfg0.N) (d) : (dats V 0 c).before 0 t d = iblk V c 0 t :=
  before_0_of V (dats V 0 c) (A_eq V c 0) (after_0 V c) t d
theorem before_1 (c : Dev nD) (t : Fin cfg0.N) (d) : (dats V 0 c).before 1 t d = iblk V c 1 t :=
  before_1_of V (dats V 0 c) (A_eq V c 1) (after_1 V c) t d
theorem before_2 (c : Dev nD) (t : Fin cfg0.N) (d) : (dats V 0 c).before 2 t d = iblk V c 2 t :=
  before_2_of V (dats V 0 c) (A_eq V c 2) (after_2 V c) t d
theorem before_3 (c : Dev nD) (t : Fin cfg0.N) (d) : (dats V 0 c).before 3 t d = iblk V c 3 t :=
  before_3_of V (dats V 0 c) (A_eq V c 3) (after_3 V c) t d
theorem before_4 (c : Dev nD) (t : Fin cfg0.N) (d) : (dats V 0 c).before 4 t d = iblk V c 4 t :=
  before_4_of V (dats V 0 c) (A_eq V c 4) (after_4 V c) t d
theorem before_5 (c : Dev nD) (t : Fin cfg0.N) (d) : (dats V 0 c).before 5 t d = iblk V c 5 t :=
  before_5_of V (dats V 0 c) (A_eq V c 5) (after_5 V c) t d
theorem before_6 (c : Dev nD) (t : Fin cfg0.N) (d) : (dats V 0 c).before 6 t d = iblk V c 6 t :=
  before_6_of V (dats V 0 c) (A_eq V c 6) (after_6 V c) t d
theorem before_7 (c : Dev nD) (t : Fin cfg0.N) (d) : (dats V 0 c).before 7 t d = iblk V c 7 t :=
  before_7_of V (dats V 0 c) (A_eq V c 7) (after_7 V c) t d

/-- After the first point the features' buffer holds the running sum. -/
theorem before_9 (c : Dev nD) (t : Fin cfg0.N) (h0 : t.val ≠ 0) (d) : (dats V 0 c).before 9 t d = (acc V c t.val).2.2 := by
  have hN : t.val < 10 := lt_of_lt_of_eq t.isLt (show cfg0.N = 10 from N_0)
  rw [Dat.before_out_kept _ 9 rfl t (by omega) (Bool.eq_false_iff.mpr fun h => by have := (flush0_9 _).mp h; dsimp only at this; omega)
    (fun _ => rfl) (fun _ _ => rfl), after_9]
  unfold outA
  rw [if_neg (by dsimp only; omega)]
  dsimp only
  rw [Nat.sub_add_cancel (Nat.one_le_iff_ne_zero.mpr h0)]

theorem idle_10 (t : Fin cfg0.N) : cfg0.idle 10 (cfg0.grid.coords t) = !decide (t.val = 0) := by
  show (!(k0_cond1 (grid0.coords t) == 1#1)) = _
  congr 1
  by_cases h : t.val = 0
  · rw [decide_eq_true h]; exact beq_iff_eq.mpr ((hcond0 t).mpr h)
  · rw [decide_eq_false h]; exact beq_eq_false_iff_ne.mpr fun e => h ((hcond0 t).mp e)

/-- After the first point the scores' buffer keeps the scores. -/
theorem before_10 (c : Dev nD) : ∀ (n : ℕ) (hn : n < cfg0.N) (_ : n ≠ 0) (d), (dats V 0 c).before 10 ⟨n, hn⟩ d = scores V c
  | 0, _, h, _ => absurd rfl h
  | n + 1, hn, _, d => by
    have hN : n + 1 < 10 := lt_of_lt_of_eq hn (show cfg0.N = 10 from N_0)
    have hN' : n < cfg0.N := lt_trans (Nat.lt_succ_self n) hn
    rw [Dat.before_of_pos _ 10 ⟨n + 1, hn⟩ (Nat.succ_ne_zero n) rfl]
    rw [if_neg (fun h => by have := (flush0_10 _).mp h; dsimp only at this; omega)]
    show (dats V 0 c).left 10 ⟨n, hN'⟩ d = _
    unfold Dat.left
    rw [idle_10]
    by_cases h : n = 0
    · simp only [h, decide_true, Bool.not_true]
      exact after_10 V c _
    · simp only [h, decide_false, Bool.not_false]
      exact before_10 c n hN' h d

/-- Window `w`'s buffer at a point. -/
abbrev ms (w : Fin cfg0.W) (t : Fin cfg0.N) := (cfg0.win w).stage (cfg0.slots t w)

set_option maxHeartbeats 1000000 in
/-- The body's triple at a point, the windows one by one. -/
theorem sound_body (c : Dev nD) (t : Fin cfg0.N) :
    iprop((dats V 0 c).Φ t.castSucc ∗ (dats V 0 c).owesAt none t.castSucc
      ∗ (∃ d, owns (c : Thread nD τ) (ms 0 t) fullShare ((dats V 0 c).before 0 t d)) ∗ (∃ d, owns (c : Thread nD τ) (ms 1 t) fullShare ((dats V 0 c).before 1 t d)) ∗ (∃ d, owns (c : Thread nD τ) (ms 2 t) fullShare ((dats V 0 c).before 2 t d)) ∗ (∃ d, owns (c : Thread nD τ) (ms 3 t) fullShare ((dats V 0 c).before 3 t d)) ∗ (∃ d, owns (c : Thread nD τ) (ms 4 t) fullShare ((dats V 0 c).before 4 t d)) ∗ (∃ d, owns (c : Thread nD τ) (ms 5 t) fullShare ((dats V 0 c).before 5 t d)) ∗ (∃ d, owns (c : Thread nD τ) (ms 6 t) fullShare ((dats V 0 c).before 6 t d)) ∗ (∃ d, owns (c : Thread nD τ) (ms 7 t) fullShare ((dats V 0 c).before 7 t d)) ∗ (∃ d, owns (c : Thread nD τ) (ms 8 t) fullShare ((dats V 0 c).before 8 t d)) ∗ (∃ d, owns (c : Thread nD τ) (ms 9 t) fullShare ((dats V 0 c).before 9 t d)) ∗ (∃ d, owns (c : Thread nD τ) (ms 10 t) fullShare ((dats V 0 c).before 10 t d)))
    ⊢ wp frame (wpE (defs₀ (F := F)) 𝒱₀ c none) Set.univ (bodyAt0 t) fun _ =>
      iprop((dats V 0 c).Φ t.succ ∗ (dats V 0 c).owesAt none t.succ
      ∗ owns (c : Thread nD τ) (ms 0 t) fullShare ((dats V 0 c).after 0 t) ∗ owns (c : Thread nD τ) (ms 1 t) fullShare ((dats V 0 c).after 1 t) ∗ owns (c : Thread nD τ) (ms 2 t) fullShare ((dats V 0 c).after 2 t) ∗ owns (c : Thread nD τ) (ms 3 t) fullShare ((dats V 0 c).after 3 t) ∗ owns (c : Thread nD τ) (ms 4 t) fullShare ((dats V 0 c).after 4 t) ∗ owns (c : Thread nD τ) (ms 5 t) fullShare ((dats V 0 c).after 5 t) ∗ owns (c : Thread nD τ) (ms 6 t) fullShare ((dats V 0 c).after 6 t) ∗ owns (c : Thread nD τ) (ms 7 t) fullShare ((dats V 0 c).after 7 t) ∗ owns (c : Thread nD τ) (ms 8 t) fullShare ((dats V 0 c).after 8 t) ∗ owns (c : Thread nD τ) (ms 9 t) fullShare ((dats V 0 c).after 9 t) ∗ (match cfg0.idle 10 (cfg0.grid.coords t) with
        | true => match (cfg0.win 10).flush t with
          | false => iprop(∃ d, owns (c : Thread nD τ) (ms 10 t) fullShare ((dats V 0 c).before 10 t d))
          | true => owns (c : Thread nD τ) (ms 10 t) fullShare ((dats V 0 c).after 10 t)
        | false => owns (c : Thread nD τ) (ms 10 t) fullShare ((dats V 0 c).after 10 t))) := by
  have hN : t.val < 10 := lt_of_lt_of_eq t.isLt (show cfg0.N = 10 from N_0)
  have hs : t.succ.val = t.val + 1 := rfl
  have hcs : t.castSucc.val = t.val := rfl
  unfold bodyAt0
  rw [idle_10 t]
  simp only [before_0, before_1, before_2, before_3, before_4, before_5, before_6, before_7]
  rw [show (dats V 0 c).owesAt none t.succ = (dats V 0 c).owesAt none t.castSucc from rfl,
    after_0, after_1, after_2, after_3, after_4, after_5, after_6, after_7, after_8, after_9, after_10]
  rw [Phi_at, Phi_at, hs, hcs, Phi_pos V c (t.val + 1) (Nat.succ_ne_zero _)]
  by_cases h0 : t.val = 0
  · obtain rfl : t = pt0 := Fin.ext h0
    have e : acc V c (pt0 : Fin cfg0.N).val = (k0_pay1, k0_pay2, k0_pay3) := rfl
    have e9 : outA V c pt0 = (acc V c ((pt0 : Fin cfg0.N).val + 1)).2.2 := by unfold outA; exact if_neg (by decide)
    rw [e9, acc_succ, e, show Phi V c (pt0 : Fin cfg0.N).val = Pipeline.scopedRest spec0 c from rfl, scopedRest0_eq]
    simp only [decide_true, Bool.not_true]
    have hS0 : (owns (c : Thread nD τ) scM fullShare : _ → sProp 𝕄) = fun f => iprop((c : Thread nD τ).loc cc0_scratch0 ↦{fullShare} f) := funext fun f => owns_whole ..
    have hS1 : (owns (c : Thread nD τ) scS fullShare : _ → sProp 𝕄) = fun f => iprop((c : Thread nD τ).loc cc0_scratch1 ↦{fullShare} f) := funext fun f => owns_whole ..
    iintro ⟨⟨⟨%s0, HS0⟩, ⟨%s1, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runA c (grid0.coords pt0) _ _ _ _ _ _ _ _ _ _ _ _ _ _ _ _ _ _ _ _ _ _ _ _ _ _ ((hcond0 pt0).mpr rfl) (fun h => absurd ((hcond1 pt0).mp h) (by decide)) (iblk V c 0 pt0) (iblk V c 1 pt0) (iblk V c 2 pt0) (iblk V c 3 pt0) (iblk V c 4 pt0) (iblk V c 5 pt0) (iblk V c 6 pt0) (iblk V c 7 pt0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexists s0; rw [hS0]; iexact HS0
    isplitl [HS1]; · iexists s1; rw [hS1]; iexact HS1
    iintro ⟨H0, H1, H2, H3, H4, H5, H6, H7, H8, H9, H10, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · by_cases h9 : t.val = 9
    · have h9' : outA V c t = k0_pay18 (acc V c (t.val + 1)).2.2 (acc V c (t.val + 1)).2.1 := by unfold outA; exact if_pos h9
      rw [h9', acc_succ, Phi_pos V c t.val h0]
      have hf : (cfg0.win 10).flush t = true := (flush0_10 t).mpr (by omega)
      simp only [h0, decide_false, Bool.not_false, hf, before_9 V c t h0, before_10 V c t.val t.isLt h0]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runC c (grid0.coords t) _ _ _ _ _ _ _ _ _ _ _ _ _ _ _ _ _ _ _ _ _ _ _ _ _ _ (fun h => h0 ((hcond0 t).mp h)) ((hcond1 t).mpr h9) (iblk V c 0 t) (iblk V c 1 t) (iblk V c 2 t) (iblk V c 3 t) (iblk V c 4 t) (iblk V c 5 t) (iblk V c 6 t) (iblk V c 7 t) (acc V c t.val).2.2 (scores V c) (acc V c t.val).1 (acc V c t.val).2.1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [HS0]; · iexact HS0
      isplitl [HS1]; · iexact HS1
      iintro ⟨H0, H1, H2, H3, H4, H5, H6, H7, H8, H9, H10, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have h9' : outA V c t = (acc V c (t.val + 1)).2.2 := by unfold outA; exact if_neg h9
      rw [h9', acc_succ, Phi_pos V c t.val h0]
      have hf : (cfg0.win 10).flush t = false := Bool.eq_false_iff.mpr fun h => by have := (flush0_10 t).mp h; omega
      simp only [h0, decide_false, Bool.not_false, hf, before_9 V c t h0, before_10 V c t.val t.isLt h0]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runB c (grid0.coords t) _ _ _ _ _ _ _ _ _ _ _ _ _ _ _ _ _ _ _ _ _ _ _ _ _ _ (fun h => h0 ((hcond0 t).mp h)) (fun h => h9 ((hcond1 t).mp h)) (iblk V c 0 t) (iblk V c 1 t) (iblk V c 2 t) (iblk V c 3 t) (iblk V c 4 t) (iblk V c 5 t) (iblk V c 6 t) (iblk V c 7 t) (acc V c t.val).2.2 (scores V c) (acc V c t.val).1 (acc V c t.val).2.1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      isplitl [HS0]; · iexact HS0
      isplitl [HS1]; · iexact HS1
      iintro ⟨H0, H1, H2, H3, H4, H5, H6, H7, H8, H9, H10, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists d10; iexact H10

theorem defs₀_row (t : Fin cfg0.N) : defs₀ (F := F) .tc cfg0.body (cfg0.bodyArgs t (cfg0.slots t)) = bodyAt0 t := rfl

/-- The body's obligation at every point. -/
theorem body_obligation (c : Dev nD) : BodyObligation (dats V 0 c) (defs₀ (F := F)) 𝒱₀ none Set.univ := fun t => by
  rw [bigSep_W0, bigSep_W0, defs₀_row]
  exact triple_restated (sound_body V c t) rfl .rfl fun _ => .rfl

end Cert.Proof.KI

end
-- ==== Proof.KI.Seg.lean ====
/-
  The TensorCore region as a segment of @main: from the unscoped buffers at any contents to those contents with the
  region's outputs written, the sequencers' starts owed throughout.
-/
module

public import proofs.«01_k».proof.Proof.KI.Region
public import Idealize.ShloMosaic.Lib.Pipeline.RegionArraysS

@[expose] public section

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf afterRegion arrRefs ucRefs pin RegionSeg)
open Idealize.ShloMosaic.StableHlo (held)
open Idealize.ShloMosaic.Tactic

variable {F : FTy → Type} [FloatOps F] [Named F]

local notation "𝕄" => MT nD τ sig (HIx 1) (Elt F) ℕ UU ℕ

/-- The one admissible contents of the pipeline's (empty) prefetched tables. -/
abbrev adm : (p : Fin 1) → (pcfgs (F := F) p).Adm := fun p => (cfgs p).toPCfg_adm

variable (W : Dev nD → Valuation τ sig (Elt F))

/-- The buffers' contents at the region's entry, by reference. -/
abbrev ent : Entry F := fun c b => W c (Proc.devRef .tc b)

/-- The buffers' contents once the region has run. -/
def left (c : Dev nD) : Valuation τ sig (Elt F) := afterRegion (dats (ent W) 0 c) (W c)

/-- What @main owes before the SparseCore call, its recorded waits at the lowest level. -/
def owed0 (c : Dev nD) : sProp 𝕄 :=
  iprop(∃ Wd, ⌜(K (F := F)).WBelow (c : Thread nD τ) Wd 0⌝ ∗ owes (c : Thread nD τ) ((K (F := F)).Otc c 0) Wd)

theorem Otc_none (c : Dev nD) (n : ℕ) (g : GSem nD τ sig) : (K (F := F)).Otc (N := 1) c n g none = 0 := by
  by_contra h
  have := SparseCore.Cfg.lev_of_Otc_pos (K := K (F := F)) (Nat.pos_of_ne_zero h)
  exact absurd this (by simp [SparseCore.Cfg.lev])

theorem waitPairs_none (p : SemLoc sig × HIx 1) (h : p ∈ Cfg.waitPairs (Ix := HIx 1) cfg0 none) : p.2 = none := by
  obtain ⟨w, s, e⟩ := h
  first
    | exact (congrArg Prod.snd e).trans rfl
    | exact (congrArg Prod.snd e.symm).trans rfl

theorem arr_sub : arrRefs (cfgs 0).spec ⊆ ucRefs τ sig := Pipeline.arrRefs_sub_ucRefs _ launch0.win.arr_unscoped

/-- The TensorCore call as a segment. -/
def seg : RegionSeg pcfgs adm (dats (ent W)) none (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation (ent W) c).loose
  hwaits c := Pipeline.cellsWaits_intro (pin pcfgs adm) (dats (ent W)) none 0 c fun w s t =>
    (K (F := F)).mayWait_none _ (Otc_none c 0)
  pre c := iprop(held (c : Thread nD τ) (ucRefs τ sig) (W c) ∗ owed0 c)
  post c := iprop(held (c : Thread nD τ) (ucRefs τ sig) (left W c) ∗ owed0 c)
  X _ := BI.emp
  Y _ := BI.emp
  Z c := held (c : Thread nD τ) (ucRefs τ sig \ arrRefs (cfgs 0).spec) (W c)
  hentry c := by
    rw [Pipeline.ownSems0_none, Pipeline.prefHeld_of_none _ rfl, StableHlo.held_sub_split (c : Thread nD τ) arr_sub (W c),
      Pipeline.arrays_held pcfgs adm (dats (ent W)) 0 launch0.toP c (fun w => (dats (ent W) 0 c).share_full (fun _ => rfl) w) (fun w => (dats (ent W) 0 c).arrAt w 0) (W c)
        (fun w => A_eq (ent W) c w)]
    iintro ⟨⟨⟨Ha, Hz⟩, HO⟩, -, -⟩
    imodintro
    isplitl [Ha]; · iexact Ha
    isplitr; · iempintro
    isplitl [HO]
    · unfold owed0
      icases HO with ⟨%Wd, %hW, HO⟩
      iexists Wd
      isplitr
      · ipureintro; exact fun p hp => Or.inl (hW p hp)
      iexact HO
    isplitr; · iempintro
    iexact Hz
  hin c := by
    show _ ⊢ Pipeline.scopedRest spec0 c
    iintro ⟨-, -, Hr⟩
    iexact Hr
  hout c := by
    have e : (dats (ent W) 0 c).Φ (Fin.last cfg0.N) = Phi (ent W) c 10 := by
      rw [Phi_at]; exact congrArg (Phi (ent W) c) N_0
    refine (Entails.of_eq e).trans ?_
    rw [Pipeline.ownSems0_none, Phi_pos (ent W) c 10 (by decide)]
    have hS0 : (owns (c : Thread nD τ) scM fullShare : _ → sProp 𝕄) = fun f => iprop((c : Thread nD τ).loc cc0_scratch0 ↦{fullShare} f) := funext fun f => owns_whole ..
    have hS1 : (owns (c : Thread nD τ) scS fullShare : _ → sProp 𝕄) = fun f => iprop((c : Thread nD τ).loc cc0_scratch1 ↦{fullShare} f) := funext fun f => owns_whole ..
    rw [hS0, hS1]
    iintro ⟨H0, H1⟩
    isplitr; · iempintro
    isplitr; · iempintro
    iapply (Entails.of_eq (scopedRest0_eq c).symm)
    isplitl [H0]
    · iexists _; iexact H0
    · iexists _; iexact H1
  hexit c := by
    rw [Pipeline.arrays_held pcfgs adm (dats (ent W)) 0 launch0.toP c (fun w => (dats (ent W) 0 c).share_full (fun _ => rfl) w) (fun w => (dats (ent W) 0 c).arrAt w (pin pcfgs adm 0).N) (left W c)
        (fun w => (Pipeline.afterRegion_arr (dats (ent W) 0 c) (W c) launch0.win.arr_inj w).symm),
      StableHlo.held_sub_split (c : Thread nD τ) arr_sub (left W c),
      StableHlo.held_congr (c : Thread nD τ) (S := ucRefs τ sig \ arrRefs (cfgs 0).spec) (V := left W c) (V' := W c)
        (Pipeline.afterRegion_off (dats (ent W) 0 c) (W c) (ucRefs τ sig))]
    iintro ⟨Ha, HO, -, Hz⟩
    imodintro
    isplitl [Ha Hz]
    · isplitl [Ha]; · iexact Ha
      iexact Hz
    unfold owed0
    icases HO with ⟨%Wd, %hW, HO⟩
    iexists Wd
    isplitr
    · ipureintro
      intro p hp
      rcases hW hp with h | h
      · exact h
      · rw [waitPairs_none p h]; exact le_rfl
    iexact HO

end Cert.Proof.KI

end
-- ==== Proof.KI.Split.lean ====
/-
  The SparseCore call as the launch theorem sees it: what each task is handed and gives back, the tasks' obligation,
  and how the four arrays split into the tasks' parts and join again.
-/
module

public import proofs.«01_k».proof.Proof.KI.Tile
public import proofs.«01_k».proof.Proof.KI.Seg
public import Idealize.ShloMosaic.Lib.Transfers

@[expose] public section

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf afterRegion arrRefs ucRefs pin RegionSeg)
open Idealize.ShloMosaic.StableHlo (held)
open Idealize.ShloMosaic.Tactic

variable {F : FTy → Type} [FloatOps F] [Named F]

local notation "𝕄" => MT nD τ sig (HIx 1) (Elt F) ℕ UU ℕ

open Idealize.ShloMosaic.Transfers (shareTok shareDrop pointsTo_toks)

variable (fz : Dev nD → S100000.Idx → Elt F .f32) (fi : Dev nD → S100000.Idx → Elt F .i32) (fp : Dev nD → S256.Idx → Elt F .f32)
  (fo : Dev nD → S100000.Idx → Elt F .f32)

/-- A task's number. -/
def tw (c : Fin 2) (i : Fin 16) : Fin 32 := ⟨2 * i.val + c.val, by omega⟩

/-- What task `w` is handed: read shares of the scores, the graph numbers and the states' scores, and its nodes of the result. -/
def goW (d : Dev nD) (w : Fin 32) : sProp 𝕄 :=
  iprop((zLoc d ↦{shareTok fullShare 32 w} fz d) ∗ (iLoc d ↦{shareTok fullShare 32 w} fi d) ∗ (pLoc d ↦{shareTok fullShare 32 w} fp d)
    ∗ (oLoc d ↦[oSet w.val]{fullShare} fo d))

/-- The payloads of the one call: a sequencer passes its sixteen tasks' parts on; the result's nodes come back at their scores. -/
def P : (K (F := F)).Pay (nD := nD) (Val := Elt F) (Name := ℕ) (U := UU) where
  st := fun q d c => match q with | 0 => bigSep Finset.univ fun i : Fin 16 => goW fz fi fp fo d (tw c i)
  dn := fun q d c => match q with | 0 => bigSep Finset.univ fun i : Fin 16 => goW fz fi fp (fun d => alignOf (fz d) (fi d) (fp d)) d (tw c i)
  go := fun q d c i => match q with | 0 => goW fz fi fp fo d (tw c i)
  td := fun q d c i => match q with | 0 => goW fz fi fp (fun d => alignOf (fz d) (fi d) (fp d)) d (tw c i)
  x := fun _ _ => BI.emp

instance goW_storable (d : Dev nD) (w : Fin 32) : BI.Storable (upEmb : UEmb _ 𝕄) (goW fz fi fp fo d w) := by
  unfold goW; infer_instance

instance P_storable : (P (F := F) fz fi fp fo).IsStorable where
  st q d c := match q with
    | 0 => (inferInstance : BI.Storable (upEmb : UEmb _ 𝕄) (bigSep Finset.univ fun i : Fin 16 => goW fz fi fp fo d (tw c i)))
  dn q d c := match q with
    | 0 => (inferInstance : BI.Storable (upEmb : UEmb _ 𝕄) (bigSep Finset.univ fun i : Fin 16 => goW fz fi fp (fun d => alignOf (fz d) (fi d) (fp d)) d (tw c i)))
  go q d c i := match q with
    | 0 => goW_storable fz fi fp fo d (tw c i)
  td q d c i := match q with
    | 0 => goW_storable fz fi fp (fun d => alignOf (fz d) (fi d) (fp d)) d (tw c i)

theorem vecSplit : (K (F := F)).VecSplit' (P fz fi fp fo) 0 := by
  intro d c
  show (bigSep Finset.univ fun i : Fin 16 => goW fz fi fp fo d (tw c i)) ⊢ |={Set.univ}=> iprop(
      (bigSep Finset.univ fun i : Fin 16 => goW fz fi fp fo d (tw c i))
      ∗ ((bigSep Finset.univ fun i : Fin 16 => goW fz fi fp (fun d => alignOf (fz d) (fi d) (fp d)) d (tw c i))
        -∗ bigSep Finset.univ fun i : Fin 16 => goW fz fi fp (fun d => alignOf (fz d) (fi d) (fp d)) d (tw c i)))
  iintro H; imodintro
  isplitl [H]; · iexact H
  iintro H; iexact H

/-- A task's coordinates. -/
abbrev coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) : defs₀ (F := F) (.scVector c s) 1 ()
    = SparseCore.onTile hcore1 hsub1 (fun c s => cc1__sc_body (coordsV c s) zV (Memref.isWhole_whole _) iV (Memref.isWhole_whole _) pV (Memref.isWhole_whole _) oV (Memref.isWhole_whole _)
        sZ (Memref.isWhole_whole _) sI (Memref.isWhole_whole _) sP (Memref.isWhole_whole _) sO (Memref.isWhole_whole _)
        cc1_scoped0 cc1_scoped1 cc1_scoped2 cc1_scoped3 cc1_scoped4 cc1_scoped5 cc1_scoped6) ⟨⟩ c s := rfl

theorem tile_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem drop_emp {A B : sProp 𝕄} : iprop(A ∗ BI.emp ∗ B) ⊢ iprop(A ∗ B) := by
  iintro ⟨HA, -, HB⟩
  isplitl [HA]; · iexact HA
  iexact HB

/-- Every task runs to its part of the result. -/
theorem tileObl (hfi : ∀ d j, (fi d j).toNat < 256) : (K (F := F)).TileObl (D (F := F)) 𝒱 (P fz fi fp fo) v₀ 0 := by
  intro d c i O W hO _ _
  simp only [show (P (F := F) fz fi fp fo).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  refine BI.Entails.trans ?_ ((tile_body d (coordsV ⟨_, hc.1⟩ ⟨_, hc.2⟩) (shareTok fullShare 32 (tw c i)) (fz d) (fi d) (fp d) (fo d) (hfi d) O W hO).trans
    (wp_mono frame _ _ fun _ => tile_post))
  exact drop_emp

/-! ## The arrays and the tasks' parts -/

theorem oSet_disjoint : ∀ i ∈ (Finset.univ : Finset (Fin 32)), ∀ j ∈ (Finset.univ : Finset (Fin 32)), i ≠ j → Disjoint (oSet i.val) (oSet j.val) := by
  intro i _ j _ h
  refine Finset.disjoint_left.mpr fun x hx hy => h (Fin.ext ?_)
  have h1 := (Finset.mem_filter.mp hx).2
  have h2 := (Finset.mem_filter.mp hy).2
  omega

theorem oSet_cover : (Finset.univ : Finset (Fin 32)).biUnion (fun w => oSet w.val) = Finset.univ := by
  refine Finset.eq_univ_iff_forall.mpr fun x => ?_
  have hx : (x 0).val < 100000 := (x 0).isLt
  refine Finset.mem_biUnion.mpr ⟨⟨(x 0).val / 3136, by omega⟩, Finset.mem_univ _, Finset.mem_filter.mpr ⟨Finset.mem_univ _, ?_⟩⟩
  dsimp only
  omega

theorem oPts_parts (d : Dev nD) (f : Buf (Elt F) (oLoc d)) :
    (oLoc d ↦{fullShare} f : sProp 𝕄) = bigSep Finset.univ fun w : Fin 32 => oLoc d ↦[oSet w.val]{fullShare} f := by
  rw [← pointsTo_biUnion Finset.univ (ℓ := oLoc d) (fun w : Fin 32 => oSet w.val) oSet_disjoint, oSet_cover]; try rfl

/-- The tasks' parts, by SparseCore and subcore. -/
theorem tasks_eq (Φ : Fin 32 → sProp 𝕄) :
    (bigSep Finset.univ Φ) = bigSep Finset.univ fun c : Fin 2 => bigSep Finset.univ fun i : Fin 16 => Φ (tw c i) := by
  rw [bigSep_univ_comm, ← bigSep_univ_prod (fun p : Fin 16 × Fin 2 => Φ (tw p.2 p.1)), bigSep_univ_equiv (finProdFinEquiv : Fin 16 × Fin 2 ≃ Fin 32)]
  exact bigSep_congr fun p _ => congrArg Φ (Fin.ext (by simp [tw, finProdFinEquiv]; omega))

/-- What stays with @main during the call. -/
def kept (d : Dev nD) : sProp 𝕄 :=
  iprop((zLoc d ↦{shareDrop fullShare 32} fz d) ∗ (iLoc d ↦{shareDrop fullShare 32} fi d) ∗ (pLoc d ↦{shareDrop fullShare 32} fp d))

/-- The four arrays are what stays with @main and every task's part. -/
theorem arrays_tasks (d : Dev nD) :
    iprop((zLoc d ↦{fullShare} fz d) ∗ (iLoc d ↦{fullShare} fi d) ∗ (pLoc d ↦{fullShare} fp d) ∗ (oLoc d ↦{fullShare} fo d))
      ⊣⊢ iprop(kept fz fi fp d ∗ (bigSep Finset.univ fun c : Fin 2 => bigSep Finset.univ fun i : Fin 16 => goW fz fi fp fo d (tw c i)) : sProp 𝕄) := by
  rw [← tasks_eq (fun w => goW fz fi fp fo d w)]
  unfold goW kept
  rw [bigSep_sep', bigSep_sep', bigSep_sep', ← oPts_parts]
  have hz := pointsTo_toks (Ix := HIx 1) (Name := ℕ) (U := UU) (Lvl := ℕ) (ℓ := zLoc d) (S := Finset.univ) (f := fz d) fullShare 32
  have hi := pointsTo_toks (Ix := HIx 1) (Name := ℕ) (U := UU) (Lvl := ℕ) (ℓ := iLoc d) (S := Finset.univ) (f := fi d) fullShare 32
  have hp := pointsTo_toks (Ix := HIx 1) (Name := ℕ) (U := UU) (Lvl := ℕ) (ℓ := pLoc d) (S := Finset.univ) (f := fp d) fullShare 32
  constructor
  · iintro ⟨Hz, Hi, Hp, Ho⟩
    ihave Hz := hz.1 $$ Hz
    ihave Hi := hi.1 $$ Hi
    ihave Hp := hp.1 $$ Hp
    icases Hz with ⟨Hz, Hzs⟩
    icases Hi with ⟨Hi, His⟩
    icases Hp with ⟨Hp, Hps⟩
    isplitl [Hz Hi Hp]
    · isplitl [Hz]; · iexact Hz
      isplitl [Hi]; · iexact Hi
      iexact Hp
    isplitl [Hzs]; · iexact Hzs
    isplitl [His]; · iexact His
    isplitl [Hps]; · iexact Hps
    iexact Ho
  · iintro ⟨⟨Hz, Hi, Hp⟩, Hzs, His, Hps, Ho⟩
    isplitl [Hz Hzs]
    · iapply hz.2
      isplitl [Hz]; · iexact Hz
      iexact Hzs
    isplitl [Hi His]
    · iapply hi.2
      isplitl [Hi]; · iexact Hi
      iexact His
    isplitl [Hp Hps]
    · iapply hp.2
      isplitl [Hp]; · iexact Hp
      iexact Hps
    iexact Ho

end Cert.Proof.KI

end
-- ==== Proof.KI.Main.lean ====
/-
  @main's run: the host operations, the TensorCore call, the SparseCore call and the last reshape, each device's
  unscoped buffers carried at their contents from the launch to the end.
-/
module

public import proofs.«01_k».proof.Proof.KI.Split

@[expose] public section

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf afterRegion arrRefs ucRefs pin RegionSeg)
open Idealize.ShloMosaic.StableHlo (held)
open Idealize.ShloMosaic.Tactic

variable {F : FTy → Type} [FloatOps F] [Named F]

local notation "𝕄" => MT nD τ sig (HIx 1) (Elt F) ℕ UU ℕ

open Idealize.ShloMosaic.StableHlo (after seq wp_seq)

/-! ## The contents of the unscoped buffers, from the launch to the end -/

/-- The host operations before the TensorCore call, -/
def ops1 : List (HloOp τ sig (Elt F)) :=
  [StableHlo.reshape main_arg2 main_v0 (rfl : (.i32 : EltTy) = .i32) shapeCasts_S100000_S10x1x10000,
    StableHlo.unary main_arg5 main_v1 ((extractStridedSlice S128x1 ![0, 0] · slices_S256x1_S128x1_0_0) : (⟨S256x1, .f32⟩ : BufTy).Contents (Elt F) → (⟨S128x1, .f32⟩ : BufTy).Contents (Elt F)),
    StableHlo.unary main_arg5 main_v2 ((extractStridedSlice S128x1 ![128, 0] · slices_S256x1_S128x1_128_0) : (⟨S256x1, .f32⟩ : BufTy).Contents (Elt F) → (⟨S128x1, .f32⟩ : BufTy).Contents (Elt F)),
    StableHlo.unary main_v2 main_v3 ((truncf .bf16 · bitsLt_bf16_f32) : (⟨S128x1, .f32⟩ : BufTy).Contents (Elt F) → (⟨S128x1, .bf16⟩ : BufTy).Contents (Elt F)),
    StableHlo.reshape main_arg4 main_v4 (rfl : (.f32 : EltTy) = .f32) shapeCasts_S128_S1x128,
    StableHlo.unary main_v4 main_v5 ((truncf .bf16 · bitsLt_bf16_f32) : (⟨S1x128, .f32⟩ : BufTy).Contents (Elt F) → (⟨S1x128, .bf16⟩ : BufTy).Contents (Elt F)),
    StableHlo.reshape main_arg6 main_v6 (rfl : (.f32 : EltTy) = .f32) shapeCasts_S1_S1x1,
    StableHlo.unary main_arg3 main_v7 ((truncf .bf16 · bitsLt_bf16_f32) : (⟨S128x128, .f32⟩ : BufTy).Contents (Elt F) → (⟨S128x128, .bf16⟩ : BufTy).Contents (Elt F))]
/-- between the two calls, -/
def ops2 : List (HloOp τ sig (Elt F)) :=
  [StableHlo.reshape main_v8_0 main_v9 (rfl : (.f32 : EltTy) = .f32) shapeCasts_S10x1x10000_S100000,
    StableHlo.reshape main_v8_2 main_v10 (rfl : (.f32 : EltTy) = .f32) shapeCasts_S256x1_S256]
/-- and after the SparseCore call. -/
def ops3 : List (HloOp τ sig (Elt F)) :=
  [StableHlo.reshape main_v11 main_v12 (rfl : (.f32 : EltTy) = .f32) shapeCasts_S100000_S100000x1]

variable (m : (ℓ : Loc nD τ sig) → Buf (Elt F) ℓ) (ρ : Dev nD → PrngReg)

/-- A device's buffers at the launch, -/
def W0 (d : Dev nD) : Valuation τ sig (Elt F) := fun b => m (d, b)
/-- before the TensorCore call, -/
def W1 (d : Dev nD) : Valuation τ sig (Elt F) := after ops1 (W0 m d)
/-- after it, -/
def W2 (d : Dev nD) : Valuation τ sig (Elt F) := left (W1 m) d
/-- before the SparseCore call. -/
def W3 (d : Dev nD) : Valuation τ sig (Elt F) := after ops2 (W2 m d)

/-- What the SparseCore call reads: the scores, -/
def vz (d : Dev nD) : S100000.Idx → Elt F .f32 := W3 m d (Proc.devRef .tc main_v9)
/-- the graph numbers, -/
def vi (d : Dev nD) : S100000.Idx → Elt F .i32 := W3 m d (Proc.devRef .tc main_arg2)
/-- the states' scores; -/
def vp (d : Dev nD) : S256.Idx → Elt F .f32 := W3 m d (Proc.devRef .tc main_v10)
/-- the result before it. -/
def vo (d : Dev nD) : S100000.Idx → Elt F .f32 := W3 m d (Proc.devRef .tc main_v11)

/-- The buffers after the SparseCore call, -/
def W4 (d : Dev nD) : Valuation τ sig (Elt F) :=
  Function.update (W3 m d) (Proc.devRef .tc main_v11) (alignOf (vz m d) (vi m d) (vp m d))
/-- and at the end. -/
def W5 (d : Dev nD) : Valuation τ sig (Elt F) := after ops3 (W4 m d)

/-- The SparseCore call's buffers. -/
abbrev S4 : Finset (DevRef τ sig) := {Proc.devRef .tc main_v9, Proc.devRef .tc main_arg2, Proc.devRef .tc main_v10, Proc.devRef .tc main_v11}

theorem S4_sub : S4 ⊆ ucRefs τ sig := by
  intro b hb
  simp only [S4, Finset.mem_insert, Finset.mem_singleton] at hb
  rcases hb with rfl | rfl | rfl | rfl <;> exact Finset.mem_filter.mpr ⟨StableHlo.devRef_mem_tcRefs _, by decide⟩

theorem held_S4 (d : Dev nD) (W : Valuation τ sig (Elt F)) :
    (held (SparseCore.T d : Thread nD τ) S4 W : sProp 𝕄)
      = iprop((zLoc d ↦{fullShare} W (Proc.devRef .tc main_v9)) ∗ (iLoc d ↦{fullShare} W (Proc.devRef .tc main_arg2))
          ∗ (pLoc d ↦{fullShare} W (Proc.devRef .tc main_v10)) ∗ (oLoc d ↦{fullShare} W (Proc.devRef .tc main_v11))) := by
  unfold held S4
  rw [SparseCore.bigSep_insert' (by decide), SparseCore.bigSep_insert' (by decide), SparseCore.bigSep_insert' (by decide), bigSep_singleton]

theorem W4_ne (d : Dev nD) (b : DevRef τ sig) (h : b ≠ Proc.devRef .tc main_v11) : W4 m d b = W3 m d b := Function.update_of_ne h _ _
theorem W4_v11 (d : Dev nD) : W4 m d (Proc.devRef .tc main_v11) = alignOf (vz m d) (vi m d) (vp m d) := Function.update_self _ _ _

/-- The buffers before the SparseCore call: its four arrays and the rest. -/
theorem held_W3 (d : Dev nD) : (held (SparseCore.T d : Thread nD τ) (ucRefs τ sig) (W3 m d) : sProp 𝕄)
    = iprop(((zLoc d ↦{fullShare} vz m d) ∗ (iLoc d ↦{fullShare} vi m d) ∗ (pLoc d ↦{fullShare} vp m d) ∗ (oLoc d ↦{fullShare} vo m d))
        ∗ held (SparseCore.T d : Thread nD τ) (ucRefs τ sig \ S4) (W3 m d)) := by
  rw [StableHlo.held_sub_split _ S4_sub, held_S4]; rfl

/-- After it: the result at the nodes' scores. -/
theorem held_W4 (d : Dev nD) : (held (SparseCore.T d : Thread nD τ) (ucRefs τ sig) (W4 m d) : sProp 𝕄)
    = iprop(((zLoc d ↦{fullShare} vz m d) ∗ (iLoc d ↦{fullShare} vi m d) ∗ (pLoc d ↦{fullShare} vp m d)
          ∗ (oLoc d ↦{fullShare} alignOf (vz m d) (vi m d) (vp m d)))
        ∗ held (SparseCore.T d : Thread nD τ) (ucRefs τ sig \ S4) (W3 m d)) := by
  rw [StableHlo.held_sub_split _ S4_sub, held_S4, W4_v11, W4_ne m d _ (by decide), W4_ne m d _ (by decide), W4_ne m d _ (by decide),
    StableHlo.held_congr _ (S := ucRefs τ sig \ S4) (V := W4 m d) (V' := W3 m d) fun b hb => W4_ne m d b fun e =>
      (Finset.mem_sdiff.mp hb).2 (by rw [e]; simp only [S4, Finset.mem_insert, Finset.mem_singleton, or_true])]
  rfl

/-! ## The launch element -/

/-- The pipeline's staging cells and its transfers' tokens, the handshakes', no counter. -/
def u₀ : UU := (initOf (K (F := F)).hsCells (K (F := F)).hsToks,
  (initOf (Pipeline.cells (pin (pcfgs (F := F)) adm) cellOf_inj) (Pipeline.launchToks (pin (pcfgs (F := F)) adm) cellOf_inj), 1))

/-- What each device's @main gets for the TensorCore call. -/
def G (d : Dev nD) : sProp 𝕄 :=
  iprop(Pipeline.cellsGhost (pin (pcfgs (F := F)) adm) EP 0 d ∗ Pipeline.toksInit (pin (pcfgs (F := F)) adm) EP 0 d)

abbrev PM : (K (F := F)).Pay (nD := nD) (Val := Elt F) (Name := ℕ) (U := UU) := P (vz m) (vi m) (vp m) (vo m)

theorem own_EP (a : UP) (b : Counters) : (BI.own (embR (a, b)) : sProp 𝕄) ⊢ BI.own (EP a) := by
  iintro H
  ihave H' := (own_pair_emb (embR : Emb (UP × Counters) 𝕄) a b) $$ H
  icases H' with ⟨H, -⟩
  iexact H

theorem bigSep_emp' {I : Type} (s : Finset I) : (bigSep s fun _ => (BI.emp : sProp 𝕄)) = BI.emp := bigSep_emp_const s

theorem bigSep_one (Φ : Fin 1 → Dev nD → sProp 𝕄) :
    (bigSep Finset.univ fun d : Dev nD => bigSep Finset.univ fun p : Fin 1 => Φ p d) ⊢ bigSep Finset.univ (Φ 0) :=
  Entails.of_eq (bigSep_congr fun d _ => bigSep_univ_of_subsingleton (0 : Fin 1))

theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (PM m).x q thr) := by
  unfold u₀
  iintro Hu
  ihave H := (ownU_pair _ _) $$ Hu
  icases H with ⟨HH, HK⟩
  ihave HP := (own_EP _ _) $$ HK
  imod (Pipeline.fund_ghost (pin (pcfgs (F := F)) adm) EP cellOf_inj) $$ HP with ⟨Hg, Ht⟩
  imodintro
  isplitl [HH]; · iexact HH
  isplitl [Hg Ht]
  · unfold G
    rw [bigSep_sep']
    isplitl [Hg]
    · iapply (bigSep_one (Pipeline.cellsGhost (pin (pcfgs (F := F)) adm) EP)); iexact Hg
    · iapply (bigSep_one (Pipeline.toksInit (pin (pcfgs (F := F)) adm) EP)); iexact Ht
  · rw [show (bigSep Finset.univ fun thr : Thread nD τ => bigSep Finset.univ fun q : Fin 1 => (PM m).x q thr) = (BI.emp : sProp 𝕄) from
      (bigSep_congr fun thr _ => bigSep_emp' _).trans (bigSep_emp' _)]
    iempintro

/-! ## @main on a device's TensorCore -/

/-- The TensorCore call, in the pipeline's labels and in the program's. -/
abbrev callP : Prog (TpuEff nD τ sig (Elt F) (ΛP (F := F)) .tc) PUnit := Prog.lift (.customCall (Pipeline.entry 0) ())
abbrev callS : Prog (TpuEff nD τ sig (Elt F) (SparseCore.Sig (ΛP (F := F)) 1) .tc) PUnit :=
  Prog.lift (.customCall (SparseCore.inner (Pipeline.entry 0)) ())

theorem main_eq (d : Dev nD) : main (F := F) d = (seq ops1 >>= fun _ =>
    callS (F := F) >>= fun _ =>
    (seq ops2 >>= fun _ => (K (F := F)).run d 0 >>= fun _ => (seq ops3 >>= fun _ => pure ⟨⟩))) := rfl

theorem ops1_sub : ∀ op ∈ (ops1 (F := F)), op.bufs ⊆ ucRefs τ sig := by
  intro op hop
  refine Pipeline.sub_ucRefs op ?_
  simp only [ops1, List.mem_cons, List.not_mem_nil, or_false] at hop
  rcases hop with rfl | rfl | rfl | rfl | rfl | rfl | rfl | rfl <;>
    (intro b hb; simp only [StableHlo.reshape_bufs, StableHlo.unary_bufs, Finset.mem_insert, Finset.mem_singleton] at hb; rcases hb with rfl | rfl <;> exact StableHlo.devRef_mem_tcRefs _)
theorem ops2_sub : ∀ op ∈ (ops2 (F := F)), op.bufs ⊆ ucRefs τ sig := by
  intro op hop
  refine Pipeline.sub_ucRefs op ?_
  simp only [ops2, List.mem_cons, List.not_mem_nil, or_false] at hop
  rcases hop with rfl | rfl <;>
    (intro b hb; simp only [StableHlo.reshape_bufs, StableHlo.unary_bufs, Finset.mem_insert, Finset.mem_singleton] at hb; rcases hb with rfl | rfl <;> exact StableHlo.devRef_mem_tcRefs _)
theorem ops3_sub : ∀ op ∈ (ops3 (F := F)), op.bufs ⊆ ucRefs τ sig := by
  intro op hop
  refine Pipeline.sub_ucRefs op ?_
  simp only [ops3, List.mem_cons, List.not_mem_nil, or_false] at hop
  rcases hop with rfl
  intro b hb; simp only [StableHlo.reshape_bufs, StableHlo.unary_bufs, Finset.mem_insert, Finset.mem_singleton] at hb; rcases hb with rfl | rfl <;> exact StableHlo.devRef_mem_tcRefs _
theorem ops1_fresh : ∀ op ∈ (ops1 (F := F)), op.fresh = ∅ := by
  intro op hop
  simp only [ops1, List.mem_cons, List.not_mem_nil, or_false] at hop
  rcases hop with rfl | rfl | rfl | rfl | rfl | rfl | rfl | rfl <;> rfl
theorem ops2_fresh : ∀ op ∈ (ops2 (F := F)), op.fresh = ∅ := by
  intro op hop
  simp only [ops2, List.mem_cons, List.not_mem_nil, or_false] at hop
  rcases hop with rfl | rfl <;> rfl
theorem ops3_fresh : ∀ op ∈ (ops3 (F := F)), op.fresh = ∅ := by
  intro op hop
  simp only [ops3, List.mem_cons, List.not_mem_nil, or_false] at hop
  rcases hop with rfl; rfl

/-- What a device's @main ends with: its unscoped buffers at their last contents. -/
abbrev FIN (d : Dev nD) : sProp 𝕄 := held (SparseCore.T d : Thread nD τ) (ucRefs τ sig) (W5 m d)

theorem st0_eq (d : Dev nD) : (bigSep Finset.univ fun c : Fin ((K (F := F)).nCore 0) => (PM m).st 0 d c)
    = bigSep Finset.univ fun c : Fin 2 => bigSep Finset.univ fun i : Fin 16 => goW (vz m) (vi m) (vp m) (vo m) d (tw c i) := rfl
theorem dn0_eq (d : Dev nD) : (bigSep Finset.univ fun c : Fin ((K (F := F)).nCore 0) => (PM m).dn 0 d c)
    = bigSep Finset.univ fun c : Fin 2 => bigSep Finset.univ fun i : Fin 16 =>
        goW (vz m) (vi m) (vp m) (fun d => alignOf (vz m d) (vi m d) (vp m d)) d (tw c i) := rfl

theorem lift_callP : SparseCore.liftProg (callP (F := F)) = callS (F := F) := rfl

theorem call_inner (d : Dev nD) (Φ : PUnit → sProp 𝕄) :
    wp frame (wpE (D (F := F)) 𝒱 (SparseCore.T d) none) Set.univ (callP (F := F)) Φ
      ⊢ wp frame (wpE ((K (F := F)).defs (D (F := F))) 𝒱 (SparseCore.T d) none) Set.univ (callS (F := F)) Φ := by
  rw [← lift_callP]
  exact (K (F := F)).wp_liftProg (D (F := F)) 𝒱 (SparseCore.T d) Set.univ none (callP (F := F)) Φ

theorem region_call (d : Dev nD) (Φ : PUnit → sProp 𝕄) :
    iprop((iprop(boundary (SparseCore.T d) ∗ held (SparseCore.T d : Thread nD τ) (ucRefs τ sig) (W2 m d) ∗ owed0 d)
            -∗ wp frame (wpE (D (F := F)) 𝒱 (SparseCore.T d) none) Set.univ (.ret ⟨⟩) Φ)
        ∗ boundary (SparseCore.T d) ∗ iprop(held (SparseCore.T d : Thread nD τ) (ucRefs τ sig) (W1 m d) ∗ owed0 d)
        ∗ levAts (K (F := F)).L (K (F := F)).lev
        ∗ Pipeline.cellsGhost (pin (pcfgs (F := F)) adm) EP 0 d ∗ Pipeline.toksInit (pin (pcfgs (F := F)) adm) EP 0 d)
      ⊢ wp frame (wpE (D (F := F)) 𝒱 (SparseCore.T d) none) Set.univ (callP (F := F)) Φ :=
  RegionSeg.wp pcfgs adm (dats (ent (W1 m))) none cellOf_inj EP (defs₀ (F := F)) 𝒱₀ (K (F := F)).L (K (F := F)).lev
    (seg (W1 m)) d none (fun u hu => by cases hu) .ret Φ

/-- The TensorCore call, from the unscoped buffers before it to those after it. -/
theorem tc_call (d : Dev nD) (Φ : PUnit → sProp 𝕄) :
    iprop((iprop(boundary (SparseCore.T d) ∗ held (SparseCore.T d : Thread nD τ) (ucRefs τ sig) (W2 m d) ∗ owed0 d) -∗ Φ ⟨⟩)
        ∗ boundary (SparseCore.T d) ∗ held (SparseCore.T d : Thread nD τ) (ucRefs τ sig) (W1 m d) ∗ owed0 d
        ∗ levAts (K (F := F)).L (K (F := F)).lev ∗ G d)
      ⊢ wp frame (wpE ((K (F := F)).defs (D (F := F))) 𝒱 (SparseCore.T d) none) Set.univ
          (callS (F := F)) Φ := by
  unfold G
  iintro ⟨Hk, Hb, Hh, Ho, Hl, Hg, Ht⟩
  iapply (call_inner d Φ)
  iapply (region_call m d Φ)
  isplitl [Hk]
  · iintro ⟨Hb, Hh, Ho⟩
    rw [wp_ret]; imodintro
    iapply Hk
    isplitl [Hb]; · iexact Hb
    isplitl [Hh]; · iexact Hh
    iexact Ho
  isplitl [Hb]; · iexact Hb
  isplitl [Hh Ho]
  · isplitl [Hh]; · iexact Hh
    iexact Ho
  isplitl [Hl]; · iexact Hl
  isplitl [Hg]; · iexact Hg
  iexact Ht

theorem fst_zero : SparseCore.Cfg.Blocks.fst 1 1 0 = 0 := by decide

theorem tc_owed (d : Dev nD) : iprop(∃ W, ⌜(K (F := F)).WBelow (SparseCore.T d : Thread nD τ) W (8 * SparseCore.Cfg.Blocks.fst 1 1 0)⌝
      ∗ owes (SparseCore.T d : Thread nD τ) ((K (F := F)).Otc d 0) W) ⊢ (owed0 d : sProp 𝕄) := by
  rw [fst_zero]; exact BI.Entails.refl _

theorem owed_tc (d : Dev nD) : (owed0 d : sProp 𝕄) ⊢ iprop(∃ W, ⌜(K (F := F)).WBelow (SparseCore.T d : Thread nD τ) W (8 * SparseCore.Cfg.Blocks.fst 1 1 0)⌝
      ∗ owes (SparseCore.T d : Thread nD τ) ((K (F := F)).Otc d 0) W) := by
  rw [fst_zero]; exact BI.Entails.refl _

/-- A device's state at its first call: what it owes, and the way back. -/
theorem tc_split (d : Dev nD) : ((K (F := F)).tcSt EH d 0 : sProp 𝕄) ⊢ iprop(owed0 d ∗ (owed0 d -∗ (K (F := F)).tcSt EH d 0)) := by
  unfold SparseCore.Cfg.tcSt
  iintro ⟨Ho, Hst⟩
  isplitl [Ho]; · iapply (tc_owed d); iexact Ho
  iintro Ho
  isplitl [Ho]; · iapply (owed_tc d); iexact Ho
  iexact Hst

theorem ret_done (d : Dev nD) (Φ : PUnit → sProp 𝕄) :
    Φ ⟨⟩ ⊢ wp frame (wpE ((K (F := F)).defs (D (F := F))) 𝒱 (SparseCore.T d) none) Set.univ (pure ⟨⟩) Φ := by
  show Φ ⟨⟩ ⊢ wp frame (wpE ((K (F := F)).defs (D (F := F))) 𝒱 (SparseCore.T d) none) Set.univ (.ret ⟨⟩) Φ
  rw [wp_ret]
  iintro H
  imodintro
  iexact H

/-- @main on device `d`'s TensorCore. -/
theorem hmain (κ : GSem nD τ sig → ℕ) (d : Dev nD) :
    iprop((K (F := F)).ctx EH (PM m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d : Thread nD τ) (ucRefs τ sig) (W0 m d) from
    Pipeline.unscopedBufs_held d (W0 m d), main_eq]
  iintro ⟨#Hctx, Hst, ⟨Hb, Hh, Hts, -⟩, HG⟩
  ihave #Hlev := (SparseCore.Cfg.ctx_levAts κ) $$ Hctx
  -- the host operations before the TensorCore call
  iapply (wp_seq 𝒱 none Set.univ d (ucRefs τ sig) _ ops1 ops1_sub ops1_fresh (W0 m d)) $$ [Hb Hh]
  · isplitl [Hb]; · iexact Hb
    iexact Hh
  iintro ⟨Hb, Hh⟩
  -- the TensorCore call
  rw [wp_bind]
  ihave Hst := (tc_split d) $$ Hst
  icases Hst with ⟨Ho, Hst⟩
  iapply (tc_call m d)
  isplitr [Hb Hh Ho HG]
  swap
  · isplitl [Hb]; · iexact Hb
    isplitl [Hh]; · iexact Hh
    isplitl [Ho]; · iexact Ho
    isplitr; · iexact Hlev
    iexact HG
  iintro ⟨Hb, Hh, Ho⟩
  -- the host operations between the calls
  iapply (wp_seq 𝒱 none Set.univ d (ucRefs τ sig) _ ops2 ops2_sub ops2_fresh (W2 m d)) $$ [Hb Hh]
  · isplitl [Hb]; · iexact Hb
    iexact Hh
  iintro ⟨Hb, Hh⟩
  -- the SparseCore call
  rw [wp_bind]
  ihave Hh := (show (held d.tc (ucRefs τ sig) (after ops2 (W2 m d)) : sProp 𝕄) ⊢ _ from Entails.of_eq (held_W3 m d)) $$ Hh
  icases Hh with ⟨Ha, Hr⟩
  ihave Ha := (arrays_tasks (vz m) (vi m) (vp m) (vo m) d).1 $$ Ha
  icases Ha with ⟨Hkept, Htasks⟩
  iapply ((K (F := F)).wp_run (D (F := F)) 𝒱 (EH := EH) (P := PM m) κ d 0)
  isplitr; · iexact Hctx
  isplitl [Ho Hst]
  · iapply Hst; iexact Ho
  isplitl [Htasks]
  · rw [st0_eq]; iexact Htasks
  iintro ⟨Hst, Hdn⟩
  ihave Hdn := (Entails.of_eq (dn0_eq m d)) $$ Hdn
  ihave Ha := (arrays_tasks (vz m) (vi m) (vp m) (fun d => alignOf (vz m d) (vi m d) (vp m d)) d).2 $$ [Hkept Hdn]
  · isplitl [Hkept]; · iexact Hkept
    iexact Hdn
  ihave Hh := (Entails.of_eq (held_W4 m d).symm) $$ [Ha Hr]
  · isplitl [Ha]; · iexact Ha
    iexact Hr
  -- the last host operation
  iapply (wp_seq 𝒱 none Set.univ d (ucRefs τ sig) _ ops3 ops3_sub ops3_fresh (W4 m d)) $$ [Hb Hh]
  · isplitl [Hb]; · iexact Hb
    iexact Hh
  iintro ⟨Hb, Hh⟩
  iapply (ret_done d)
  isplitl [Hst]; · iexact Hst
  isplitl [Hh]; · iexact Hh
  isplitl [Hb]; · iexact Hb
  iexact Hts

/-! ## The run -/

/-- Buffers held at contents are in the memory at those contents. -/
theorem held_read (c : Thread nD τ) (A : Finset (DevRef τ sig)) (W : Valuation τ sig (Elt F)) (s' : Phys nD τ sig (Elt F)) :
    iprop(held c A W ∗ SI s') ⊢ (⌜∀ b ∈ A, s'.mem.mem (c.1, b) = W b⌝ : sProp 𝕄) := by
  have one : ∀ b : DevRef τ sig, iprop(held c A W ∗ SI s') ⊢ (⌜b ∈ A → s'.mem.mem (c.1, b) = W b⌝ : sProp 𝕄) := by
    intro b
    by_cases hb : b ∈ A
    · iintro ⟨Hh, HSI⟩
      ihave Hx := (show (held c A W : sProp 𝕄) ⊢ ((c.1, b) ↦{fullShare} W b) from bigSep_elim hb) $$ Hh
      ihave H := (SI_pointsTo_agree (st := s') (ℓ := (c.1, b)) (I := Finset.univ) (q := fullShare) (f := W b)) $$ [HSI Hx]
      · isplitl [HSI] <;> iassumption
      icases H with %hx
      ipureintro; exact fun _ => funext fun i => hx i (Finset.mem_univ i)
    · iintro -
      ipureintro; exact fun h => absurd h hb
  exact (Laws.forall_intro one).trans Laws.pure_forall.2

def fq (d : Dev nD) (s' : Phys nD τ sig (Elt F)) : Prop := ∀ b ∈ ucRefs τ sig, s'.mem.mem (d, b) = W5 m d b

theorem hfin (d : Dev nD) (s' : Phys nD τ sig (Elt F)) : iprop(FIN m d ∗ SI s') ⊢ (⌜fq m d s'⌝ : sProp 𝕄) :=
  held_read (SparseCore.T d) (ucRefs τ sig) (W5 m d) s'

/-- What a run ends with: every unscoped buffer at its last contents, every semaphore at zero. -/
def QC : PUnit × MemSt nD τ sig (Elt F) → Prop := fun r =>
  (∀ (d : Dev nD) (b : DevRef τ sig), b ∈ ucRefs τ sig → r.2.mem (d, b) = W5 m d b) ∧ r.2.sem = fun _ => 0

/-- The program runs to its end from any memory whose graph numbers are in range. -/
theorem run_main [∀ e, Nonempty (Elt F e)] (hfi : ∀ d j, (vi m d j).toNat < 256) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (vz m) (vi m) (vp m) (vo m) hfi)
    (fun q _ => match q with | 0 => SparseCore.Cfg.VecSplit.of_plain (vecSplit (vz m) (vi m) (vp m) (vo m)))
    m ρ main G (FIN m) (u₀ (F := F)) (sep_elim_left.trans (hu₀ m)) (hmain m ρ) (fq m) (hfin m) (QC m) (fun _ h hz => ⟨fun d b hb => h d b hb, hz⟩)

end Cert.Proof.KI

end
-- ==== Proof.KI.Args.lean ====
/-
  The argument arrays are never written: every buffer of theirs ends as it began.
-/
module

public import proofs.«01_k».proof.Proof.KI.Main

@[expose] public section

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf afterRegion arrRefs ucRefs pin RegionSeg)
open Idealize.ShloMosaic.StableHlo (held)
open Idealize.ShloMosaic.Tactic

variable {F : FTy → Type} [FloatOps F] [Named F]

local notation "𝕄" => MT nD τ sig (HIx 1) (Elt F) ℕ UU ℕ

open Idealize.ShloMosaic.StableHlo (after seq wp_seq)

variable (m : (ℓ : Loc nD τ sig) → Buf (Elt F) ℓ)

/-- The arrays the host operations write. -/
abbrev wr1 : List (Ref sig .tc) := [main_v0, main_v1, main_v2, main_v3, main_v4, main_v5, main_v6, main_v7]
abbrev wr2 : List (Ref sig .tc) := [main_v9, main_v10]
abbrev wr3 : List (Ref sig .tc) := [main_v12]

theorem W1_of {r : Ref sig .tc} (d : Dev nD) (hr : r ∉ wr1) : W1 m d (Proc.devRef .tc r) = m (d, Proc.devRef .tc r) :=
  StableHlo.after_of_writes_sub (W := wr1) ops1 (W0 m d) (StableHlo.forall_writes_sub_of_map rfl) hr

theorem W3_of {r : Ref sig .tc} (d : Dev nD) (hr : r ∉ wr2) : W3 m d (Proc.devRef .tc r) = W2 m d (Proc.devRef .tc r) :=
  StableHlo.after_of_writes_sub (W := wr2) ops2 (W2 m d) (StableHlo.forall_writes_sub_of_map rfl) hr

theorem W5_of {r : Ref sig .tc} (d : Dev nD) (hr : r ∉ wr3) : W5 m d (Proc.devRef .tc r) = W4 m d (Proc.devRef .tc r) :=
  StableHlo.after_of_writes_sub (W := wr3) ops3 (W4 m d) (StableHlo.forall_writes_sub_of_map rfl) hr

/-- An array that is not an output of the TensorCore call is unchanged by it. -/
theorem W2_of {r : Ref sig .tc} (d : Dev nD) (h : ∀ w, Pipeline.arrRef (cfgs 0).spec w = r → ((cfgs 0).win w).isOut = false) :
    W2 m d (Proc.devRef .tc r) = W1 m d (Proc.devRef .tc r) :=
  Pipeline.afterRegion_keeps (dats (ent (W1 m)) 0 d) (W1 m d) launch0.win.arr_inj (fun w => A_eq (ent (W1 m)) d w) r h

theorem W2_arg0 (d : Dev nD) : W2 m d (Proc.devRef .tc main_arg0) = m (d, Proc.devRef .tc main_arg0) :=
  (W2_of m d (by decide)).trans (W1_of m d (by decide))

theorem W5_arg0 (d : Dev nD) : W5 m d (Proc.devRef .tc main_arg0) = m (d, Proc.devRef .tc main_arg0) :=
  (W5_of m d (by decide)).trans ((W4_ne m d _ (by decide)).trans ((W3_of m d (by decide)).trans (W2_arg0 m d)))

theorem W2_arg1 (d : Dev nD) : W2 m d (Proc.devRef .tc main_arg1) = m (d, Proc.devRef .tc main_arg1) :=
  (W2_of m d (by decide)).trans (W1_of m d (by decide))

theorem W5_arg1 (d : Dev nD) : W5 m d (Proc.devRef .tc main_arg1) = m (d, Proc.devRef .tc main_arg1) :=
  (W5_of m d (by decide)).trans ((W4_ne m d _ (by decide)).trans ((W3_of m d (by decide)).trans (W2_arg1 m d)))

theorem W2_arg2 (d : Dev nD) : W2 m d (Proc.devRef .tc main_arg2) = m (d, Proc.devRef .tc main_arg2) :=
  (W2_of m d (by decide)).trans (W1_of m d (by decide))

theorem W5_arg2 (d : Dev nD) : W5 m d (Proc.devRef .tc main_arg2) = m (d, Proc.devRef .tc main_arg2) :=
  (W5_of m d (by decide)).trans ((W4_ne m d _ (by decide)).trans ((W3_of m d (by decide)).trans (W2_arg2 m d)))

theorem W2_arg3 (d : Dev nD) : W2 m d (Proc.devRef .tc main_arg3) = m (d, Proc.devRef .tc main_arg3) :=
  (W2_of m d (by decide)).trans (W1_of m d (by decide))

theorem W5_arg3 (d : Dev nD) : W5 m d (Proc.devRef .tc main_arg3) = m (d, Proc.devRef .tc main_arg3) :=
  (W5_of m d (by decide)).trans ((W4_ne m d _ (by decide)).trans ((W3_of m d (by decide)).trans (W2_arg3 m d)))

theorem W2_arg4 (d : Dev nD) : W2 m d (Proc.devRef .tc main_arg4) = m (d, Proc.devRef .tc main_arg4) :=
  (W2_of m d (by decide)).trans (W1_of m d (by decide))

theorem W5_arg4 (d : Dev nD) : W5 m d (Proc.devRef .tc main_arg4) = m (d, Proc.devRef .tc main_arg4) :=
  (W5_of m d (by decide)).trans ((W4_ne m d _ (by decide)).trans ((W3_of m d (by decide)).trans (W2_arg4 m d)))

theorem W2_arg5 (d : Dev nD) : W2 m d (Proc.devRef .tc main_arg5) = m (d, Proc.devRef .tc main_arg5) :=
  (W2_of m d (by decide)).trans (W1_of m d (by decide))

theorem W5_arg5 (d : Dev nD) : W5 m d (Proc.devRef .tc main_arg5) = m (d, Proc.devRef .tc main_arg5) :=
  (W5_of m d (by decide)).trans ((W4_ne m d _ (by decide)).trans ((W3_of m d (by decide)).trans (W2_arg5 m d)))

theorem W2_arg6 (d : Dev nD) : W2 m d (Proc.devRef .tc main_arg6) = m (d, Proc.devRef .tc main_arg6) :=
  (W2_of m d (by decide)).trans (W1_of m d (by decide))

theorem W5_arg6 (d : Dev nD) : W5 m d (Proc.devRef .tc main_arg6) = m (d, Proc.devRef .tc main_arg6) :=
  (W5_of m d (by decide)).trans ((W4_ne m d _ (by decide)).trans ((W3_of m d (by decide)).trans (W2_arg6 m d)))

theorem vi_eq (d : Dev nD) : vi m d = m (d, Proc.devRef .tc main_arg2) := (W3_of m d (by decide)).trans (W2_arg2 m d)

theorem uc_of {r : Ref sig .tc} (h : (Proc.devRef .tc r : DevRef τ sig).isScoped = false) : (Proc.devRef .tc r : DevRef τ sig) ∈ ucRefs τ sig :=
  Finset.mem_filter.mpr ⟨StableHlo.devRef_mem_tcRefs _, by rw [h]; decide⟩

/-- What the claims say of every final memory: the two results at their values, the arguments unchanged, the semaphores zero. -/
theorem run_claim [∀ e, Nonempty (Elt F e)] (ρ : Dev nD → PrngReg)
    (hids : ∀ d (j : S100000.Idx), ((m (d, Proc.devRef .tc main_arg2) : S100000.Idx → BitVec 32) j).toNat < 256) :
    θ_run (Cert.KernelIdeal.defs (F := F)) (Cert.KernelIdeal.threads (F := F)) ⟨m, fun _ => 0, ρ⟩ (fun r => (∀ d : Dev nD,
      r.2.mem (d, Proc.devRef .tc main_v8_1) = W5 m d (Proc.devRef .tc main_v8_1)
      ∧ r.2.mem (d, Proc.devRef .tc main_v12) = W5 m d (Proc.devRef .tc main_v12)
      ∧ r.2.mem (d, Proc.devRef .tc main_arg0) = m (d, Proc.devRef .tc main_arg0)
      ∧ r.2.mem (d, Proc.devRef .tc main_arg1) = m (d, Proc.devRef .tc main_arg1)
      ∧ r.2.mem (d, Proc.devRef .tc main_arg2) = m (d, Proc.devRef .tc main_arg2)
      ∧ r.2.mem (d, Proc.devRef .tc main_arg3) = m (d, Proc.devRef .tc main_arg3)
      ∧ r.2.mem (d, Proc.devRef .tc main_arg4) = m (d, Proc.devRef .tc main_arg4)
      ∧ r.2.mem (d, Proc.devRef .tc main_arg5) = m (d, Proc.devRef .tc main_arg5)
      ∧ r.2.mem (d, Proc.devRef .tc main_arg6) = m (d, Proc.devRef .tc main_arg6))
      ∧ r.2.sem = fun _ => 0) :=
  (θ_run (Cert.KernelIdeal.defs (F := F)) (Cert.KernelIdeal.threads (F := F)) ⟨m, fun _ => 0, ρ⟩).mono
    (fun _ h => ⟨fun d => ⟨h.1 d _ (uc_of rfl), h.1 d _ (uc_of rfl), (h.1 d _ (uc_of rfl)).trans (W5_arg0 m d),
      (h.1 d _ (uc_of rfl)).trans (W5_arg1 m d), (h.1 d _ (uc_of rfl)).trans (W5_arg2 m d), (h.1 d _ (uc_of rfl)).trans (W5_arg3 m d),
      (h.1 d _ (uc_of rfl)).trans (W5_arg4 m d), (h.1 d _ (uc_of rfl)).trans (W5_arg5 m d), (h.1 d _ (uc_of rfl)).trans (W5_arg6 m d)⟩, h.2⟩)
    (run_main m ρ fun d j => by rw [vi_eq]; exact hids d j)

end Cert.Proof.KI

end
-- ==== Proof.Value.Math.lean ====
/-
  The mathematics of the two results over the extended reals: a weighted sum kept with a running maximum, and a softmax
  over the members of each graph taken against any one bound in place of each graph's own maximum.
-/
module

public import Idealize.ShloMosaic.PureOps.Ideal.Laws
public import Mathlib.Data.EReal.Inv

@[expose] public section

noncomputable section

namespace Cert.Proof.Value

open Idealize.ShloMosaic
open scoped BigOperators

/-- A sum times a finite number that is not negative. -/
theorem sum_mul_coe {ι : Type*} (s : Finset ι) (f : ι → EReal) {e : ℝ} (he : 0 ≤ e) : (∑ i ∈ s, f i) * (e : EReal) = ∑ i ∈ s, f i * (e : EReal) := by
  classical
  induction s using Finset.induction_on with
  | empty => simp
  | insert a s h ih =>
    rw [Finset.sum_insert h, Finset.sum_insert h, EReal.right_distrib_of_nonneg_of_ne_top (EReal.coe_nonneg.mpr he) (EReal.coe_ne_top _), ih]

/-- A finite sum of reals, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The maximum of finitely many finite numbers, at least one, is one of them. -/
theorem fold_max_real {ι : Type} [Fintype ι] [Nonempty ι] (z : ι → ℝ) :
    ∃ k, Finset.univ.fold max (⊥ : EReal) (fun k => (z k : EReal)) = (z k : EReal) ∧ ∀ j, z j ≤ z k := by
  obtain ⟨k, -, hk⟩ := Finset.exists_max_image Finset.univ z Finset.univ_nonempty
  refine ⟨k, le_antisymm ?_ ?_, fun j => hk j (Finset.mem_univ j)⟩
  · exact Finset.fold_max_le _ |>.mpr ⟨bot_le, fun j hj => EReal.coe_le_coe_iff.mpr (hk j hj)⟩
  · exact Finset.le_fold_max _ |>.mpr (Or.inr ⟨k, Finset.mem_univ k, le_rfl⟩)

/-- The same, of numbered ones. -/
theorem fold_max_coe {n : ℕ} (hn : 0 < n) (z : Fin n → ℝ) :
    ∃ k, Finset.univ.fold max (⊥ : EReal) (fun k => (z k : EReal)) = (z k : EReal) ∧ ∀ j, z j ≤ z k :=
  haveI : Nonempty (Fin n) := ⟨⟨0, hn⟩⟩
  fold_max_real z

/-- A node's weight against the bound `μ`, zero off the graph. -/
def wt (p : Prop) [Decidable p] (z μ : ℝ) : ℝ := if p then Real.exp (z - μ) else 0

/-- A weight grows where the bound falls. -/
theorem wt_anti (p : Prop) [Decidable p] (z : ℝ) {μ ν : ℝ} (h : μ ≤ ν) : wt p z ν ≤ wt p z μ := by
  unfold wt; split
  · exact Real.exp_le_exp.mpr (by linarith)
  · exact le_rfl

/-- A weight is not negative. -/
theorem wt_nonneg (p : Prop) [Decidable p] (z μ : ℝ) : 0 ≤ wt p z μ := by
  unfold wt; split
  · exact (Real.exp_pos _).le
  · exact le_rfl

/-- A weight against another bound. -/
theorem wt_mul (p : Prop) [Decidable p] (z μ ν : ℝ) : wt p z μ * Real.exp (μ - ν) = wt p z ν := by
  unfold wt; split
  · rw [← Real.exp_add]; congr 1; ring
  · exact zero_mul _

/-- A block's part of the running sum: the weighted sum against its own maximum, put against the new one. -/
theorem block_step {n : ℕ} (p : Fin n → Prop) [DecidablePred p] (z : Fin n → ℝ) (att : Fin n → EReal) (μ ν : ℝ) :
    Ideal.exp ((μ : EReal) - (ν : EReal)) * ∑ k, (wt (p k) (z k) μ : EReal) * att k = ∑ k, (wt (p k) (z k) ν : EReal) * att k := by
  rw [← EReal.coe_sub, Ideal.exp_coe, mul_comm, sum_mul_coe _ _ (Real.exp_pos _).le]
  refine Finset.sum_congr rfl fun k _ => ?_
  rw [mul_right_comm, ← EReal.coe_mul, wt_mul]

/-- The running maximum's, the running sum's invariant after the first `n` of the blocks. -/
structure Inv {N n₀ : ℕ} (p : Fin N → Fin n₀ → Prop) [∀ j, DecidablePred (p j)] (z : Fin N → Fin n₀ → ℝ) (att : Fin N → Fin n₀ → EReal)
    (n : ℕ) (M A : EReal) : Prop where
  zero : n = 0 → M = ⊥ ∧ A = 0
  pos : n ≠ 0 → ∃ j k, M = (z j k : EReal) ∧ A = ∑ j' ∈ Finset.univ.filter (fun j' : Fin N => j'.val < n), ∑ k', (wt (p j' k') (z j' k') (z j k) : EReal) * att j' k'

/-- The steps before the next one are those before this one, and this one. -/
theorem filter_lt_succ {N : ℕ} (n : Fin N) :
    (Finset.univ.filter fun j : Fin N => j.val < n.val + 1) = insert n (Finset.univ.filter fun j : Fin N => j.val < n.val) := by
  ext j
  simp only [Finset.mem_filter, Finset.mem_univ, true_and, Finset.mem_insert, Fin.ext_iff]
  omega

/-- One block more keeps the invariant. -/
theorem Inv.step {N n₀ : ℕ} (h0 : 0 < n₀) {p : Fin N → Fin n₀ → Prop} [∀ j, DecidablePred (p j)] {z : Fin N → Fin n₀ → ℝ} {att : Fin N → Fin n₀ → EReal}
    (n : Fin N) {M A : EReal} (h : Inv p z att n.val M A) (mb : EReal) (hmb : mb = Finset.univ.fold max (⊥ : EReal) fun k => (z n k : EReal)) (S : EReal)
    (hS : S = ∑ k, (if p n k then Ideal.exp ((z n k : EReal) - mb) else 0) * att n k) :
    Inv p z att (n.val + 1) (max M mb) (A * Ideal.exp (M - max M mb) + Ideal.exp (mb - max M mb) * S) := by
  obtain ⟨k, hk, -⟩ := fold_max_coe h0 (z n)
  rw [hk] at hmb
  have hS' : S = ∑ k', (wt (p n k') (z n k') (z n k) : EReal) * att n k' := by
    rw [hS]
    refine Finset.sum_congr rfl fun k' _ => ?_
    rw [hmb, ← EReal.coe_sub, Ideal.exp_coe]
    unfold wt
    split <;> rfl
  refine ⟨fun h => absurd h (Nat.succ_ne_zero _), fun _ => ?_⟩
  subst hmb
  rw [hS']
  by_cases hn : n.val = 0
  · obtain ⟨rfl, rfl⟩ := h.zero hn
    refine ⟨n, k, max_eq_right bot_le, ?_⟩
    rw [max_eq_right bot_le, zero_mul, zero_add, block_step, filter_lt_succ, Finset.sum_insert (by simp)]
    rw [Finset.sum_eq_zero (s := Finset.univ.filter fun j : Fin N => j.val < n.val) (fun j hj => absurd (Finset.mem_filter.mp hj).2 (by omega)), add_zero]
  · obtain ⟨j, k', rfl, rfl⟩ := h.pos hn
    obtain ⟨j₁, k₁, hM⟩ : ∃ j₁ k₁, max (z j k' : EReal) (z n k : EReal) = (z j₁ k₁ : EReal) := by
      rcases max_choice (z j k' : EReal) (z n k : EReal) with e | e
      · exact ⟨j, k', e⟩
      · exact ⟨n, k, e⟩
    refine ⟨j₁, k₁, hM, ?_⟩
    rw [hM, block_step, filter_lt_succ, Finset.sum_insert (by simp), add_comm]
    congr 1
    rw [← EReal.coe_sub, Ideal.exp_coe, sum_mul_coe _ _ (Real.exp_pos _).le]
    refine Finset.sum_congr rfl fun a _ => ?_
    rw [sum_mul_coe _ _ (Real.exp_pos _).le]
    refine Finset.sum_congr rfl fun b _ => ?_
    rw [mul_right_comm, ← EReal.coe_mul, wt_mul]

/-- The lower bound that keeps a graph's sum off zero. -/
def eps : EReal := Ideal.ofBits .f32 0x2B8CBCCC#32

/-- The floor's value. -/
theorem eps_eq : eps = ((2305843 / 2305843009213693952 : ℝ) : EReal) := by
  unfold eps
  simp [Ideal.ofBits, Ideal.ieee, -EReal.coe_mul]; norm_num

/-- The pattern of minus infinity. -/
theorem ofBits_neg_inf : Ideal.ofBits FTy.f32 0xFF800000#32 = ⊥ := by simp [Ideal.ofBits, Ideal.ieee]

/-- The slope below zero of the features' rectifier. -/
def slope : EReal := ((13421773 / 67108864 : ℝ) : EReal)

/-- The rectifier of the features. -/
def leaky (y : EReal) : EReal := if 0 < y then y else slope * y

/-- The finish of a feature's mean. -/
def elu (q : EReal) : EReal := if 0 < q then q else Ideal.exp q - 1

/-! ## The softmax over each graph -/

variable {ι B : Type} [Fintype ι] [DecidableEq B]

/-- A node's score in its graph. -/
def al (g : ι → B) (z : ι → ℝ) (s : B → ℝ) (i : ι) : EReal := (z i : EReal) + (s (g i) : EReal)

/-- The largest score of a graph; `⊥` of a graph without nodes. -/
def top (g : ι → B) (z : ι → ℝ) (s : B → ℝ) (b : B) : EReal := Finset.univ.fold max ⊥ fun i => if g i = b then al g z s i else ⊥

/-- The same, with zero for a graph without nodes. -/
def mx (g : ι → B) (z : ι → ℝ) (s : B → ℝ) (b : B) : EReal := if max (top g z s b) (-top g z s b) < ⊤ then top g z s b else 0

/-- A node's exponential, under the maximum of its graph. -/
def ex (g : ι → B) (z : ι → ℝ) (s : B → ℝ) (i : ι) : EReal := Ideal.exp (al g z s i - mx g z s (g i))

/-- The sum of these over a graph. -/
def seg (g : ι → B) (z : ι → ℝ) (s : B → ℝ) (b : B) : EReal := ∑ i ∈ Finset.univ.filter (fun i => g i = b), ex g z s i

omit [Fintype ι] [DecidableEq B] in
/-- A score is finite. -/
theorem al_eq (g : ι → B) (z : ι → ℝ) (s : B → ℝ) (i : ι) : al g z s i = ((z i + s (g i) : ℝ) : EReal) := rfl

/-- The largest score of a graph with nodes is one of its nodes'. -/
theorem top_eq (g : ι → B) (z : ι → ℝ) (s : B → ℝ) (i₀ : ι) :
    ∃ k, g k = g i₀ ∧ top g z s (g i₀) = al g z s k := by
  obtain ⟨k, hk, hmax⟩ := Finset.exists_max_image (Finset.univ.filter fun i => g i = g i₀) (fun i => al g z s i) ⟨i₀, by simp⟩
  have hk' : g k = g i₀ := (Finset.mem_filter.mp hk).2
  refine ⟨k, hk', le_antisymm ?_ ?_⟩
  · refine Finset.fold_max_le _ |>.mpr ⟨bot_le, fun j _ => ?_⟩
    split
    · next h => exact hmax j (by simp [h])
    · exact bot_le
  · exact Finset.le_fold_max _ |>.mpr (Or.inr ⟨k, Finset.mem_univ k, by rw [if_pos hk']⟩)

/-- The maximum of a graph with a node is the score of one of its nodes. -/
theorem mx_eq (g : ι → B) (z : ι → ℝ) (s : B → ℝ) (i₀ : ι) :
    ∃ k, g k = g i₀ ∧ mx g z s (g i₀) = ((z k + s (g i₀) : ℝ) : EReal) := by
  obtain ⟨k, hk, h⟩ := top_eq g z s i₀
  refine ⟨k, hk, ?_⟩
  unfold mx
  rw [h, al_eq, hk, if_pos]
  exact max_lt (EReal.coe_lt_top _) (by rw [← EReal.coe_neg]; exact EReal.coe_lt_top _)

/-- The weighted mean against one bound is the weighted mean with the graph's own softmax, where no graph's weights sum to
    less than the floor. -/
theorem softmax_eq (g : ι → B) (z : ι → ℝ) (s : B → ℝ) (att : ι → EReal) (M : ℝ)
    (hfl : ∀ i, eps ≤ ((∑ j, wt (g j = g i) (z j) M : ℝ) : EReal)) (b : B) :
    Ideal.div (∑ i, (wt (g i = b) (z i) M : EReal) * att i) (max (∑ i, (wt (g i = b) (z i) M : EReal)) eps) =
      ∑ i ∈ Finset.univ.filter (fun i => g i = b), Ideal.div (ex g z s i) (max (seg g z s (g i)) eps) * att i := by
  by_cases hb : ∃ i₀, g i₀ = b
  · obtain ⟨i₀, rfl⟩ := hb
    obtain ⟨k, hk, hm⟩ := mx_eq g z s i₀
    set S : ℝ := ∑ i, wt (g i = g i₀) (z i) M with hS
    set κ : ℝ := Real.exp (M - z k) with hκ
    have hex : ∀ i, g i = g i₀ → ex g z s i = ((wt (g i = g i₀) (z i) M * κ : ℝ) : EReal) := by
      intro i hi
      unfold ex
      rw [hi, hm, al_eq, hi, ← EReal.coe_sub, Ideal.exp_coe]
      unfold wt
      rw [if_pos rfl, hκ, ← Real.exp_add]
      congr 2; ring
    have hseg : seg g z s (g i₀) = ((S * κ : ℝ) : EReal) := by
      unfold seg
      rw [Finset.sum_congr rfl fun i hi => hex i (Finset.mem_filter.mp hi).2, ← coe_sum, ← Finset.sum_mul, hS, Finset.sum_filter]
      congr 2
      refine Finset.sum_congr rfl fun i _ => ?_
      split
      · rfl
      · next h => unfold wt; rw [if_neg h]
    have hSk : wt (g k = g i₀) (z k) M ≤ S := Finset.single_le_sum (f := fun i => wt (g i = g i₀) (z i) M) (fun i _ => wt_nonneg _ _ _) (Finset.mem_univ k)
    have hwk : wt (g k = g i₀) (z k) M = Real.exp (z k - M) := if_pos hk
    rw [hwk] at hSk
    have hSpos : 0 < S := (Real.exp_pos _).trans_le hSk
    have hSfl := hfl i₀
    rw [← hS, eps_eq] at hSfl
    have hκpos : 0 < κ := Real.exp_pos _
    have hSκ : 1 ≤ S * κ := by
      have : Real.exp (z k - M) * κ = 1 := by rw [hκ, ← Real.exp_add]; simp
      rw [← this]
      exact mul_le_mul_of_nonneg_right hSk hκpos.le
    rw [← coe_sum, ← hS, eps_eq, max_eq_left hSfl, Ideal.div_coe hSpos.ne', sum_mul_coe _ _ (by positivity), Finset.sum_filter]
    refine Finset.sum_congr rfl fun i _ => ?_
    split
    · next h =>
      rw [hex i h, h, hseg, max_eq_left (EReal.coe_le_coe_iff.mpr ((by norm_num : _ ≤ (1 : ℝ)).trans hSκ)), Ideal.div_coe (by positivity), mul_right_comm, ← EReal.coe_mul, ← EReal.coe_mul]
      congr 2
      field_simp
    · next h => unfold wt; rw [if_neg h]; simp
  · have hb' : ∀ i, ¬ g i = b := fun i h => hb ⟨i, h⟩
    have hw : ∀ i, wt (g i = b) (z i) M = 0 := fun i => if_neg (hb' i)
    rw [Finset.filter_false_of_mem fun i _ => hb' i, Finset.sum_empty]
    simp only [hw, EReal.coe_zero, zero_mul, Finset.sum_const_zero]
    rw [eps_eq, max_eq_right (EReal.coe_nonneg.mpr (by norm_num)), Ideal.div_coe (by norm_num), zero_mul]

end Cert.Proof.Value

end
-- ==== Proof.Value.Ref.lean ====
/-
  The reference's two results as named stages of its arguments.
-/
module

public import proofs.«01_k».proof.Proof.Gen.ReferenceIdeal.Run
public import Idealize.ShloMosaic.Lib.Pointwise
public import Idealize.ShloMosaic.Lib.Routing.OpsPair
public import Idealize.ShloMosaic.Lib.StableHlo.Predicate
public import proofs.«01_k».proof.Proof.Value.Math

@[expose] public section

set_option maxRecDepth 16384

noncomputable section

namespace Cert.Proof.Value.Ref

open Cert.ReferenceIdeal Cert.ReferenceIdeal.Gen

open Idealize.ShloMosaic Idealize.ShloMosaic.TcCoe
open Idealize.ShloMosaic.Pointwise

variable (r0 : FVec Ideal S256x128 .f32) (r1 : FVec Ideal S100000x128 .f32) (r2 : IVec S100000 32) (r3 : FVec Ideal S128x128 .f32)
  (r4 : FVec Ideal S128 .f32) (r5 : FVec Ideal S256x1 .f32) (r6 : FVec Ideal S1 .f32)

/-- The rows to take, a negative one counted from the end. -/
def rows : IVec S100000x1 32 :=
  broadcastInDim S100000x1 ![0] bcast_S100000_S100000x1_0 (select (cmpi .slt r2 (broadcastInDim S100000 ![] bcast_S_S100000 (constantI S_ 32 0#32)))
    (addi r2 (broadcastInDim S100000 ![] bcast_S_S100000 (constantI S_ 32 256#32))) r2)

/-- Where the row to take exists. -/
def inb : IVec S100000 1 :=
  Host.reduce IntOp.andi (andi (cmpi .sge (rows r2) (broadcastInDim S100000x1 ![] bcast_S_S100000x1 (constantI S_ 32 0#32)))
    (cmpi .sle (rows r2) (broadcastInDim S100000x1 ![0, 1] bcast_S1x1_S100000x1_0_1 (broadcastInDim S1x1 ![1] bcast_S1_S1x1_1 (constantI S1 32 255#32)))))
    (constantI S_ 1 1#1) reducesTo_S100000x1_S100000_d1 h_S_

/-- Each node's graph's state. -/
def state : FVec Ideal S100000x128 .f32 :=
  select (broadcastInDim S100000x128 ![0] bcast_S100000_S100000x128_0 (inb r2))
    (Host.gather gather_S256x128_S100000x1_S100000x128_1_0_n_n_0_1_1128 r0 (rows r2))
    (broadcastInDim S100000x128 ![] bcast_S_S100000x128 (constant S_ .f32 0x7FC00000#32))

/-- Each node's row of a column over the graphs. -/
def take (v : FVec Ideal S256x1 .f32) : FVec Ideal S100000x1 .f32 :=
  select (broadcastInDim S100000x1 ![0] bcast_S100000_S100000x1_0 (inb r2))
    (Host.gather gather_S256x1_S100000x1_S100000x1_1_0_n_n_0_1_11 v (rows r2))
    (broadcastInDim S100000x1 ![] bcast_S_S100000x1 (constant S_ .f32 0x7FC00000#32))

/-- The second result. -/
def align : FVec Ideal S100000x1 .f32 :=
  addf (Host.dotGeneral dot_S100000x256_S256x1_S100000x1_1_0_0_1_n_n none
      (concatenate S100000x256 1 [⟨S100000x128, state r0 r2⟩, ⟨S100000x128, r1⟩] concatenates_S100000x128_S100000x128_S100000x256_d1) r5)
    (broadcastInDim S100000x1 ![0, 1] bcast_S1x1_S100000x1_0_1 (broadcastInDim S1x1 ![1] bcast_S1_S1x1_1 r6))

/-- The largest of a graph's nodes. -/
def segMax (v : FVec Ideal S100000x1 .f32) : FVec Ideal S256x1 .f32 :=
  broadcastInDim S256x1 ![0] bcast_S256_S256x1_0 (Host.reduce FloatOps.maximumf
    (select (cmpi .eq (broadcastInDim S256x100000 ![0, 1] bcast_S1x100000_S256x100000_0_1 (broadcastInDim S1x100000 ![1] bcast_S100000_S1x100000_1 r2)) (iotaInDim S256x100000 32 0))
      (broadcastInDim S256x100000 ![0, 1] bcast_S1x100000_S256x100000_0_1 (broadcastInDim S1x100000 ![1] bcast_S100000_S1x100000_1 (shapeCast S100000 v shapeCasts_S100000x1_S100000)))
      (broadcastInDim S256x100000 ![] bcast_S_S256x100000 (id (constant S_ .f32 0xFF800000#32)))) (constant S_ .f32 0xFF800000#32) reducesTo_S256x100000_S256_d1 h_S_)

/-- Zero where it is not finite. -/
def fin0 (v : FVec Ideal S256x1 .f32) : FVec Ideal S256x1 .f32 :=
  select (cmpf .olt (Host.absf v) (broadcastInDim S256x1 ![] bcast_S_S256x1 (constant S_ .f32 0x7F800000#32))) v
    (broadcastInDim S256x1 ![] bcast_S_S256x1 (id (constant S_ .f32 0x00000000#32)))

/-- A column's sums over each graph's nodes. -/
def segSum (v : FVec Ideal S100000x1 .f32) : FVec Ideal S256x1 .f32 :=
  Host.scatterAdd scatter_S256x1_S100000x1_S100000x1_1_0_0_1 (broadcastInDim S256x1 ![] bcast_S_S256x1 (constant S_ .f32 0x00000000#32))
    (broadcastInDim S100000x1 ![0] bcast_S100000_S100000x1_0 r2) v

/-- The same of a matrix. -/
def segSum2 (v : FVec Ideal S100000x128 .f32) : FVec Ideal S256x128 .f32 :=
  Host.scatterAdd scatter_S256x128_S100000x1_S100000x128_1_0_0_1 (broadcastInDim S256x128 ![] bcast_S_S256x128 (constant S_ .f32 0x00000000#32))
    (broadcastInDim S100000x1 ![0] bcast_S100000_S100000x1_0 r2) v

/-- The weights before their sum is divided out, of the scores. -/
def expo (v : FVec Ideal S100000x1 .f32) : FVec Ideal S100000x1 .f32 := Host.exp (subf v (take r2 (fin0 (segMax r2 v))))

/-- The weights, of the scores. -/
def alpha (v : FVec Ideal S100000x1 .f32) : FVec Ideal S100000x1 .f32 :=
  Host.divf (expo r2 v) (take r2 (maximumf (segSum r2 (expo r2 v)) (broadcastInDim S256x1 ![] bcast_S_S256x1 (constant S_ .f32 0x2B8CBCCC#32))))

/-- The features before their rectifier, -/
def pre : FVec Ideal S100000x128 .f32 :=
  addf (Host.dotGeneral dot_S100000x128_S128x128_S100000x128_1_0_0_1_n_n none r1 r3)
    (broadcastInDim S100000x128 ![0, 1] bcast_S1x128_S100000x128_0_1 (broadcastInDim S1x128 ![1] bcast_S128_S1x128_1 r4))

/-- and after it. -/
def rect (y : FVec Ideal S100000x128 .f32) : FVec Ideal S100000x128 .f32 :=
  select (cmpf .ogt y (broadcastInDim S100000x128 ![] bcast_S_S100000x128 (constant S_ .f32 0x00000000#32))) y
    (mulf (broadcastInDim S100000x128 ![] bcast_S_S100000x128 (constant S_ .f32 0x3E4CCCCD#32)) y)

/-- The finish. -/
def fin (q : FVec Ideal S256x128 .f32) : FVec Ideal S256x128 .f32 :=
  select (cmpf .ogt q (broadcastInDim S256x128 ![] bcast_S_S256x128 (constant S_ .f32 0x00000000#32))) q
    (mulf (broadcastInDim S256x128 ![] bcast_S_S256x128 (constant S_ .f32 0x3F800000#32))
      (Host.expm1 (select (cmpf .ogt q (broadcastInDim S256x128 ![] bcast_S_S256x128 (constant S_ .f32 0x00000000#32)))
        (broadcastInDim S256x128 ![] bcast_S_S256x128 (id (constant S_ .f32 0x00000000#32))) q)))

/-- The first result. -/
def mm : FVec Ideal S256x128 .f32 :=
  fin (segSum2 r2 (mulf (broadcastInDim S100000x128 ![0, 1] bcast_S100000x1_S100000x128_0_1 (alpha r2 (align r0 r1 r2 r5 r6))) (rect (pre r1 r3 r4))))

variable (m : (ℓ : Loc nD τ sig) → Buf (Elt Ideal) ℓ) (c : Dev nD)

set_option maxHeartbeats 4000000 in
/-- The reference's first result is the last stage of its arguments. -/
theorem res_eq : Cert.ReferenceIdeal.Value.res_main_v43 m c =
    mm (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  unfold Cert.ReferenceIdeal.Value.res_main_v43
  rfl

/-! ## Each stage at an index -/

variable (hids : ∀ i, (r2 (ix1 i)).toNat < 256)

/-- The graph of a node. -/
def gr (hids : ∀ i, (r2 (ix1 i)).toNat < 256) (i : Fin 100000) : Fin 256 := ⟨(r2 (ix1 i)).toNat, hids i⟩

/-- A small word reads the same signed and unsigned. -/
theorem toInt_of_lt {w : BitVec 32} (h : w.toNat < 256) : w.toInt = w.toNat := BitVec.toInt_eq_toNat_of_lt (by omega)

include hids

/-- A graph number in range is the row itself. -/
theorem rows_at (i : Fin 100000) : rows r2 (ix2 i 0) = r2 (ix1 i) := by
  pointwise [rows]
  exact Routing.wrap_of_lt _ _ (lt_trans (hids i) (by norm_num))

/-- It is found in range. -/
theorem inb_at (i : Fin 100000) : inb r2 (ix1 i) = 1#1 := by
  pointwise [inb]
  have h0 : IntOp.cmpi CmpIPredicate.sge (r2 (ix1 i)) 0#32 = 1#1 := (StableHlo.Predicate.sge_iff_toNat (lt_trans (hids i) (by norm_num)) (by decide)).mpr (Nat.zero_le _)
  have h1 : IntOp.cmpi CmpIPredicate.sle (r2 (ix1 i)) 255#32 = 1#1 := (StableHlo.Predicate.sle_iff_toNat (lt_trans (hids i) (by norm_num)) (by decide)).mpr (Nat.le_of_lt_succ (hids i))
  rw [show (Finset.univ : Finset (Fin 1)) = {0} from rfl, Finset.fold_singleton, rows_at r2 hids, h0, h1]
  rfl

omit hids in
/-- The row a gather reads. -/
theorem gather128 (x : FVec Ideal S256x128 .f32) (idx : IVec S100000x1 32) (i : Fin 100000) (l : Fin 128) (h : (idx (ix2 i 0)).toNat < 256) :
    Host.gather gather_S256x128_S100000x1_S100000x128_1_0_n_n_0_1_1128 x idx (ix2 i l) = x (ix2 ⟨(idx (ix2 i 0)).toNat, h⟩ l) := by
  unfold Host.gather
  congr 1
  funext a
  refine Fin.ext ?_
  match a with
  | ⟨0, _⟩ =>
    show min (idx _).toInt.toNat (256 - 1) + 0 + 0 = (idx (ix2 i 0)).toNat
    have e : gather_S256x128_S100000x1_S100000x128_1_0_n_n_0_1_1128.siIdx (ix2 i l) ⟨0, by decide⟩ = ix2 i 0 := by
      funext b
      match b with
      | ⟨0, _⟩ => rfl
      | ⟨1, _⟩ => rfl
    refine (congrArg (fun j => min (idx j).toInt.toNat (256 - 1) + 0 + 0) e).trans ?_
    rw [toInt_of_lt h]
    omega
  | ⟨1, _⟩ =>
    show 0 + 0 + l.val = l.val
    omega

omit hids in
/-- The same, of a single column. -/
theorem gather1 (x : FVec Ideal S256x1 .f32) (idx : IVec S100000x1 32) (i : Fin 100000) (h : (idx (ix2 i 0)).toNat < 256) :
    Host.gather gather_S256x1_S100000x1_S100000x1_1_0_n_n_0_1_11 x idx (ix2 i 0) = x (ix2 ⟨(idx (ix2 i 0)).toNat, h⟩ 0) := by
  unfold Host.gather
  congr 1
  funext a
  refine Fin.ext ?_
  match a with
  | ⟨0, _⟩ =>
    show min (idx _).toInt.toNat (256 - 1) + 0 + 0 = (idx (ix2 i 0)).toNat
    have e : gather_S256x1_S100000x1_S100000x1_1_0_n_n_0_1_11.siIdx (ix2 i 0) ⟨0, by decide⟩ = ix2 i 0 := by
      funext b
      match b with
      | ⟨0, _⟩ => rfl
      | ⟨1, _⟩ => rfl
    refine (congrArg (fun j => min (idx j).toInt.toNat (256 - 1) + 0 + 0) e).trans ?_
    rw [toInt_of_lt h]
    omega
  | ⟨1, _⟩ => rfl

/-- A node's state is its graph's. -/
theorem state_at (i : Fin 100000) (l : Fin 128) : state r0 r2 (ix2 i l) = r0 (ix2 (gr r2 hids i) l) := by
  pointwise [state]
  have e := rows_at r2 hids i
  rw [inb_at r2 hids, gather128 _ _ _ _ (by rw [e]; exact hids i)]
  refine congrArg (fun k => r0 (ix2 k l)) (Fin.ext ?_)
  show (rows r2 (ix2 i 0)).toNat = (r2 (ix1 i)).toNat
  rw [e]

/-- A value taken for a node is the one of its graph. -/
theorem take_at (v : FVec Ideal S256x1 .f32) (i : Fin 100000) : take r2 v (ix2 i 0) = v (ix2 (gr r2 hids i) 0) := by
  pointwise [take]
  have e := rows_at r2 hids i
  rw [inb_at r2 hids, gather1 _ _ _ (by rw [e]; exact hids i)]
  refine congrArg (fun k => v (ix2 k 0)) (Fin.ext ?_)
  show (rows r2 (ix2 i 0)).toNat = (r2 (ix1 i)).toNat
  rw [e]

/-- A node's score: its graph's state and its own row against the two halves of the weights. -/
theorem align_at (i : Fin 100000) : align r0 r1 r2 r5 r6 (ix2 i 0) =
    ∑ e : Fin 128, r0 (ix2 (gr r2 hids i) e) * r5 (ix2 ⟨e.val, by omega⟩ 0) + ∑ e : Fin 128, r1 (ix2 i e) * r5 (ix2 ⟨128 + e.val, by omega⟩ 0) + r6 (ix1 0) := by
  pointwise [align]
  simp only [state_at r0 r2 hids]

omit hids in
/-- A node's feature before the rectifier. -/
theorem pre_at (i : Fin 100000) (u : Fin 128) : pre r1 r3 r4 (ix2 i u) = ∑ e, r1 (ix2 i e) * r3 (ix2 e u) + r4 (ix1 u) := by
  pointwise [pre]

omit hids in
/-- The reference's slope is float32's 0.2. -/
theorem ofBits_slope : Ideal.ofBits FTy.f32 1045220557#32 = slope := by
  unfold slope
  simp [Ideal.ofBits, Ideal.ieee, -EReal.coe_mul]; norm_num

omit hids in
/-- The rectifier at an index. -/
theorem rect_at (y : FVec Ideal S100000x128 .f32) (i : Fin 100000) (u : Fin 128) : rect y (ix2 i u) = leaky (y (ix2 i u)) := by
  pointwise [rect]
  rw [ofBits_slope]
  rfl

omit hids in
/-- The finish at an index. -/
theorem fin_at (y : FVec Ideal S256x128 .f32) (b : Fin 256) (u : Fin 128) : fin y (ix2 b u) = elu (y (ix2 b u)) := by
  pointwise [fin]
  unfold elu
  by_cases h : 0 < y (ix2 b u)
  · rw [if_pos h, if_pos h]
  · rw [if_neg h, if_neg h, if_neg h]

/-- A choice by a node's being of a graph. -/
theorem select_member {α : Type} (i : Fin 100000) (b : Fin 256) (x y : α) :
    Scalar.select (IntOp.cmpi .eq (r2 (ix1 i)) (BitVec.ofNat 32 b.val)) x y = if gr r2 hids i = b then x else y := by
  by_cases h : gr r2 hids i = b
  · have e : r2 (ix1 i) = BitVec.ofNat 32 b.val := by
      rw [← h]; exact (BitVec.ofNat_toNat 32 (r2 (ix1 i))).symm
    rw [if_pos h, StableHlo.Predicate.cmpi_eq_iff.mpr e]
    rfl
  · have e : r2 (ix1 i) ≠ BitVec.ofNat 32 b.val := fun e => h (Fin.ext (by
      show (r2 (ix1 i)).toNat = b.val
      rw [e, BitVec.toNat_ofNat]; omega))
    rw [if_neg h, ValueIdx.eq_zero_of_ne_one (mt StableHlo.Predicate.cmpi_eq_iff.mp e)]
    rfl

/-- The maximum over a graph; minus infinity of a graph without nodes. -/
theorem segMax_at (y : FVec Ideal S100000x1 .f32) (b : Fin 256) :
    segMax r2 y (ix2 b 0) = Finset.univ.fold max ⊥ fun i : Fin 100000 => if gr r2 hids i = b then y (ix2 i 0) else ⊥ := by
  pointwise [segMax]
  rw [ofBits_neg_inf]
  refine congrArg (fun f => Finset.univ.fold max ⊥ f) (funext fun i => ?_)
  rw [select_member r2 hids]
  exact if_congr Iff.rfl rfl ofBits_neg_inf

omit hids in
/-- What is not finite becomes zero. -/
theorem fin0_at (y : FVec Ideal S256x1 .f32) (b : Fin 256) : fin0 y (ix2 b 0) = if max (y (ix2 b 0)) (-y (ix2 b 0)) < ⊤ then y (ix2 b 0) else 0 := by
  have e : Ideal.ofBits FTy.f32 2139095040#32 = ⊤ := by simp [Ideal.ofBits, Ideal.ieee]
  have e0 : Ideal.ofBits FTy.f32 0#32 = 0 := by simp [Ideal.ofBits, Ideal.ieee]
  pointwise [fin0]
  rw [e]
  show (if max (y (ix2 b 0)) (-y (ix2 b 0)) < ⊤ then y (ix2 b 0) else Ideal.ofBits FTy.f32 0#32) = _
  rw [e0]

/-- An exponential, under the maximum of its graph. -/
theorem expo_at (y : FVec Ideal S100000x1 .f32) (i : Fin 100000) :
    expo r2 y (ix2 i 0) = Ideal.exp (y (ix2 i 0) - fin0 (segMax r2 y) (ix2 (gr r2 hids i) 0)) := by
  pointwise [expo]
  rw [take_at r2 hids]

omit hids in
/-- The floor under a sum. -/
theorem floor_at (y : FVec Ideal S256x1 .f32) (b : Fin 256) :
    maximumf y (broadcastInDim S256x1 ![] bcast_S_S256x1 (constant S_ .f32 0x2B8CBCCC#32)) (ix2 b 0) = max (y (ix2 b 0)) eps := by
  pointwise []
  rfl

/-- A node's weight: its exponential over the floored sum of its graph. -/
theorem alpha_at (y : FVec Ideal S100000x1 .f32) (i : Fin 100000) :
    alpha r2 y (ix2 i 0) = Ideal.div (expo r2 y (ix2 i 0)) (max (segSum r2 (expo r2 y) (ix2 (gr r2 hids i) 0)) eps) := by
  pointwise [alpha]
  rw [take_at r2 hids, floor_at]

/-- Where a scatter adds an entry. -/
theorem lands1 (idx : IVec S100000x1 32) (i : Fin 100000) (h : idx (ix2 i 0) = r2 (ix1 i)) (b : Fin 256) :
    scatter_S256x1_S100000x1_S100000x1_1_0_0_1.resultIdx? (ix2 i 0) idx = some (ix2 b 0) ↔ gr r2 hids i = b := by
  refine (Routing.resultIdx?_ix2 _ _ _ _ _).trans ?_
  have e : scatter_S256x1_S100000x1_S100000x1_1_0_0_1.siIdx (ix2 i 0) ⟨0, by decide⟩ = ix2 i 0 := by
    funext b
    match b with
    | ⟨0, _⟩ => rfl
    | ⟨1, _⟩ => rfl
  have s0 : scatter_S256x1_S100000x1_S100000x1_1_0_0_1.start (ix2 i 0) idx 0 = ((r2 (ix1 i)).toNat : Int) := by
    rw [← toInt_of_lt (hids i), ← h]
    exact congrArg (fun j => (idx j).toInt) e
  have s1 : scatter_S256x1_S100000x1_S100000x1_1_0_0_1.start (ix2 i 0) idx 1 = 0 := rfl
  have w0 : scatter_S256x1_S100000x1_S100000x1_1_0_0_1.window (ix2 i 0) 0 = 0 := rfl
  have w1 : scatter_S256x1_S100000x1_S100000x1_1_0_0_1.window (ix2 i 0) 1 = 0 := rfl
  rw [s0, s1, w0, w1]
  constructor
  · intro k
    exact Fin.ext (by have := k.1; show (r2 (ix1 i)).toNat = b.val; omega)
  · intro k
    have : (r2 (ix1 i)).toNat = b.val := congrArg Fin.val k
    exact ⟨by omega, rfl⟩

/-- The same, of rows of 128. -/
theorem lands128 (idx : IVec S100000x1 32) (i : Fin 100000) (h : idx (ix2 i 0) = r2 (ix1 i)) (l u : Fin 128) (b : Fin 256) :
    scatter_S256x128_S100000x1_S100000x128_1_0_0_1.resultIdx? (ix2 i l) idx = some (ix2 b u) ↔ gr r2 hids i = b ∧ l = u := by
  refine (Routing.resultIdx?_ix2 _ _ _ _ _).trans ?_
  have e : scatter_S256x128_S100000x1_S100000x128_1_0_0_1.siIdx (ix2 i l) ⟨0, by decide⟩ = ix2 i 0 := by
    funext b
    match b with
    | ⟨0, _⟩ => rfl
    | ⟨1, _⟩ => rfl
  have s0 : scatter_S256x128_S100000x1_S100000x128_1_0_0_1.start (ix2 i l) idx 0 = ((r2 (ix1 i)).toNat : Int) := by
    rw [← toInt_of_lt (hids i), ← h]
    exact congrArg (fun j => (idx j).toInt) e
  have s1 : scatter_S256x128_S100000x1_S100000x128_1_0_0_1.start (ix2 i l) idx 1 = 0 := rfl
  have w0 : scatter_S256x128_S100000x1_S100000x128_1_0_0_1.window (ix2 i l) 0 = 0 := rfl
  have w1 : scatter_S256x128_S100000x1_S100000x128_1_0_0_1.window (ix2 i l) 1 = l.val := rfl
  rw [s0, s1, w0, w1]
  constructor
  · intro k
    exact ⟨Fin.ext (by have := k.1; show (r2 (ix1 i)).toNat = b.val; omega), Fin.ext (by have := k.2; omega)⟩
  · rintro ⟨k, rfl⟩
    have : (r2 (ix1 i)).toNat = b.val := congrArg Fin.val k
    exact ⟨by omega, by omega⟩

/-- A segment sum, of one column, -/
theorem segSum_at (y : FVec Ideal S100000x1 .f32) (b : Fin 256) :
    segSum r2 y (ix2 b 0) = ∑ i ∈ Finset.univ.filter (fun i => gr r2 hids i = b), y (ix2 i 0) := by
  have h : ∀ i : Fin 100000, (broadcastInDim S100000x1 ![0] bcast_S100000_S100000x1_0 r2 : IVec S100000x1 32) (ix2 i 0) = r2 (ix1 i) := fun i => by pointwise []
  have e0 : (broadcastInDim S256x1 ![] bcast_S_S256x1 (constant (F := Ideal) S_ .f32 0x00000000#32) : FVec Ideal S256x1 .f32) (ix2 b 0) = 0 := by pointwise []
  unfold segSum
  generalize (broadcastInDim S100000x1 ![0] bcast_S100000_S100000x1_0 r2 : IVec S100000x1 32) = idx at h ⊢
  generalize (broadcastInDim S256x1 ![] bcast_S_S256x1 (constant (F := Ideal) S_ .f32 0x00000000#32) : FVec Ideal S256x1 .f32) = x at e0 ⊢
  show x (ix2 b 0) + ∑ j ∈ Finset.univ.filter (fun j => scatter_S256x1_S100000x1_S100000x1_1_0_0_1.resultIdx? j idx = some (ix2 b 0)), y j = _
  rw [e0, zero_add, Finset.sum_filter, sum_idx2, Finset.sum_filter]
  refine Finset.sum_congr rfl fun i _ => ?_
  rw [Fin.sum_univ_one]
  exact if_congr (lands1 r2 hids idx i (h i) b) rfl rfl

/-- and of 128. -/
theorem segSum2_at (y : FVec Ideal S100000x128 .f32) (b : Fin 256) (u : Fin 128) :
    segSum2 r2 y (ix2 b u) = ∑ i ∈ Finset.univ.filter (fun i => gr r2 hids i = b), y (ix2 i u) := by
  have h : ∀ i : Fin 100000, (broadcastInDim S100000x1 ![0] bcast_S100000_S100000x1_0 r2 : IVec S100000x1 32) (ix2 i 0) = r2 (ix1 i) := fun i => by pointwise []
  have e0 : (broadcastInDim S256x128 ![] bcast_S_S256x128 (constant (F := Ideal) S_ .f32 0x00000000#32) : FVec Ideal S256x128 .f32) (ix2 b u) = 0 := by pointwise []
  unfold segSum2
  generalize (broadcastInDim S100000x1 ![0] bcast_S100000_S100000x1_0 r2 : IVec S100000x1 32) = idx at h ⊢
  generalize (broadcastInDim S256x128 ![] bcast_S_S256x128 (constant (F := Ideal) S_ .f32 0x00000000#32) : FVec Ideal S256x128 .f32) = x at e0 ⊢
  show x (ix2 b u) + ∑ j ∈ Finset.univ.filter (fun j => scatter_S256x128_S100000x1_S100000x128_1_0_0_1.resultIdx? j idx = some (ix2 b u)), y j = _
  rw [e0, zero_add, Finset.sum_filter, sum_idx2, Finset.sum_filter]
  refine Finset.sum_congr rfl fun i _ => ?_
  rw [Finset.sum_congr rfl fun l _ => if_congr (lands128 r2 hids idx i (h i) l u b) rfl rfl]
  by_cases k : gr r2 hids i = b
  · simp [k]
  · simp [k]

section Finite

variable (zr : Fin 100000 → ℝ) (sr : Fin 256 → ℝ) (y : FVec Ideal S100000x1 .f32) (hy : ∀ i, y (ix2 i 0) = al (gr r2 hids) zr sr i)

include hy

/-- The maximum over a graph, of finite scores. -/
theorem top_at (b : Fin 256) : segMax r2 y (ix2 b 0) = top (gr r2 hids) zr sr b := by
  rw [segMax_at r2 hids]
  simp only [hy]
  rfl

/-- An exponential, of finite scores. -/
theorem ex_at (i : Fin 100000) : expo r2 y (ix2 i 0) = ex (gr r2 hids) zr sr i := by
  rw [expo_at r2 hids, fin0_at, top_at r2 hids zr sr y hy, hy]
  rfl

/-- Their sum over a graph. -/
theorem seg_at (b : Fin 256) : segSum r2 (expo r2 y) (ix2 b 0) = seg (gr r2 hids) zr sr b := by
  rw [segSum_at r2 hids]
  simp only [ex_at r2 hids zr sr y hy]
  rfl

/-- A node's weight, of finite scores. -/
theorem weight_at (i : Fin 100000) :
    alpha r2 y (ix2 i 0) = Ideal.div (ex (gr r2 hids) zr sr i) (max (seg (gr r2 hids) zr sr (gr r2 hids i)) eps) := by
  rw [alpha_at r2 hids, ex_at r2 hids zr sr y hy, seg_at r2 hids zr sr y hy]

end Finite

omit hids in
/-- A row scaled by its node's weight. -/
theorem scaled_at (w : FVec Ideal S100000x1 .f32) (t : FVec Ideal S100000x128 .f32) (i : Fin 100000) (u : Fin 128) :
    mulf (broadcastInDim S100000x128 ![0, 1] bcast_S100000x1_S100000x128_0_1 w) t (ix2 i u) = w (ix2 i 0) * t (ix2 i u) := by
  pointwise []

/-- The first result of finite scores: the softmax-weighted sum of the features over each graph. -/
theorem mm_at (zr : Fin 100000 → ℝ) (sr : Fin 256 → ℝ) (hy : ∀ i, align r0 r1 r2 r5 r6 (ix2 i 0) = al (gr r2 hids) zr sr i) (b : Fin 256) (u : Fin 128) :
    mm r0 r1 r2 r3 r4 r5 r6 (ix2 b u) = elu (∑ i ∈ Finset.univ.filter (fun i => gr r2 hids i = b),
      Ideal.div (ex (gr r2 hids) zr sr i) (max (seg (gr r2 hids) zr sr (gr r2 hids i)) eps) * leaky (∑ e, r1 (ix2 i e) * r3 (ix2 e u) + r4 (ix1 u))) := by
  unfold mm
  rw [fin_at, segSum2_at r2 hids]
  refine congrArg elu (Finset.sum_congr rfl fun i _ => ?_)
  have h0 := scaled_at (alpha r2 (align r0 r1 r2 r5 r6)) (rect (pre r1 r3 r4)) i u
  have h1 := weight_at r2 hids zr sr _ hy i
  have h2 := rect_at (pre r1 r3 r4) i u
  have h3 := pre_at r1 r3 r4 i u
  rw [h1, h2, h3] at h0
  exact h0

end Cert.Proof.Value.Ref

end
-- ==== Proof.Value.Tame.lean ====
/-
  What the precondition of the value claim says: the graph numbers are in range, the scores finite, the nodes' scores close together.
-/
module

public import proofs.«01_k».proof.Pre_tame
public import proofs.«01_k».proof.Proof.Gen.Pre_tame
public import Idealize.ShloMosaic.Lib.Pointwise
public import Idealize.ShloMosaic.Lib.ReduceAll
public import Idealize.ShloMosaic.Lib.WordCmp
public import proofs.«01_k».proof.Proof.Value.Ref

@[expose] public section

set_option maxRecDepth 16384

noncomputable section

namespace Cert.Proof.Value.Tame

open Cert.Pre_tame Cert.Pre_tame.Gen

open Idealize.ShloMosaic Idealize.ShloMosaic.Pointwise

variable (r0 : FVec Ideal S256x128 .f32) (r1 : FVec Ideal S100000x128 .f32) (r2 : IVec S100000 32) (r3 : FVec Ideal S128x128 .f32)
  (r4 : FVec Ideal S128 .f32) (r5 : FVec Ideal S256x1 .f32) (r6 : FVec Ideal S1 .f32)

/-- The nodes' scores, -/
def zs : FVec Ideal S100000x1 .f32 :=
  Host.dotGeneral dot_S100000x128_S128x1_S100000x1_1_0_0_1_n_n none r1 (extractStridedSlice S128x1 ![128, 0] r5 slices_S256x1_S128x1_128_0)

/-- the graphs', -/
def ss : FVec Ideal S256x1 .f32 :=
  addf (Host.dotGeneral dot_S256x128_S128x1_S256x1_1_0_0_1_n_n none r0 (extractStridedSlice S128x1 ![0, 0] r5 slices_S256x1_S128x1_0_0))
    (broadcastInDim S256x1 ![0, 1] bcast_S1x1_S256x1_0_1 (broadcastInDim S1x1 ![1] bcast_S1_S1x1_1 r6))

/-- the conditions on the graph numbers, -/
def cIds : IVec S100000 1 :=
  andi (cmpi .sge r2 (broadcastInDim S100000 ![] bcast_S_S100000 (constantI S_ 32 0#32))) (cmpi .slt r2 (broadcastInDim S100000 ![] bcast_S_S100000 (constantI S_ 32 256#32)))

/-- on the scores' being finite, -/
def cZ (z : FVec Ideal S100000x1 .f32) : IVec S100000x1 1 := cmpf .olt (Host.absf z) (broadcastInDim S100000x1 ![] bcast_S_S100000x1 (constant S_ .f32 0x7F800000#32))

/-- of either kind; -/
def cS (s : FVec Ideal S256x1 .f32) : IVec S256x1 1 := cmpf .olt (Host.absf s) (broadcastInDim S256x1 ![] bcast_S_S256x1 (constant S_ .f32 0x7F800000#32))

/-- The exponentials of the nodes' scores under the largest of all, -/
def ez (z : FVec Ideal S100000x1 .f32) : FVec Ideal S100000x1 .f32 :=
  Host.exp (subf z (broadcastInDim S100000x1 ![] bcast_S_S100000x1 (Host.reduce FloatOps.maximumf z (constant S_ .f32 0xFF800000#32) reducesTo_S100000x1_S_d0_1 h_S_)))

/-- their sums over the graphs, -/
def total (e : FVec Ideal S100000x1 .f32) : FVec Ideal S256 .f32 :=
  Host.reduceAdd (fn_where (F := Ideal)
    (cmpi .eq (broadcastInDim S256x100000 ![0, 1] bcast_S1x100000_S256x100000_0_1 (broadcastInDim S1x100000 ![1] bcast_S100000_S1x100000_1 r2)) (iotaInDim S256x100000 32 0))
    (broadcastInDim S1x100000 ![1] bcast_S100000_S1x100000_1 (shapeCast S100000 e shapeCasts_S100000x1_S100000)) (constant S_ .f32 0x00000000#32))
    (constant S_ .f32 0x00000000#32) reducesTo_S256x100000_S256_d1 h_S_

/-- and the condition on these. -/
def cT (t : FVec Ideal S256 .f32) : IVec S256 1 :=
  ori (cmpf .ole t (broadcastInDim S256 ![] bcast_S_S256 (constant S_ .f32 0x00000000#32))) (cmpf .oge t (broadcastInDim S256 ![] bcast_S_S256 (constant S_ .f32 0x2B8CBCCC#32)))

/-- The precondition is the four conditions, each everywhere. -/
theorem fn_eq : Cert.Pre_tame.fn (F := Ideal) r0 r1 r2 r3 r4 r5 r6 =
    andi (andi (andi (Host.reduce IntOp.andi (cIds r2) (constantI S_ 1 1#1) reducesTo_S100000_S_d0 h_S_)
      (Host.reduce IntOp.andi (cZ (zs r1 r5)) (constantI S_ 1 1#1) reducesTo_S100000x1_S_d0_1 h_S_))
      (Host.reduce IntOp.andi (cS (ss r0 r5 r6)) (constantI S_ 1 1#1) reducesTo_S256x1_S_d0_1 h_S_))
      (Host.reduce IntOp.andi (cT (total r2 (ez (zs r1 r5)))) (constantI S_ 1 1#1) reducesTo_S256_S_d0 h_S_) := rfl

/-- Every condition holds everywhere. -/
theorem conds (h : Cert.Pre_tame.fn (F := Ideal) r0 r1 r2 r3 r4 r5 r6 = fun _ => 1#1) :
    (∀ j, cIds r2 j = 1#1) ∧ (∀ j, cZ (zs r1 r5) j = 1#1) ∧ (∀ j, cS (ss r0 r5 r6) j = 1#1) ∧ ∀ j, cT (total r2 (ez (zs r1 r5))) j = 1#1 := by
  rw [fn_eq] at h
  have h' := congrFun h ix0
  obtain ⟨h1, hD⟩ := IntOp.andi_eq_one.mp h'
  obtain ⟨h2, hS⟩ := IntOp.andi_eq_one.mp h1
  obtain ⟨hI, hZ⟩ := IntOp.andi_eq_one.mp h2
  exact ⟨fun j => Host.reduce_andi_eq_one _ _ _ _ _ hI j (funext fun a => a.elim0), fun j => Host.reduce_andi_eq_one _ _ _ _ _ hZ j (funext fun a => a.elim0),
    fun j => Host.reduce_andi_eq_one _ _ _ _ _ hS j (funext fun a => a.elim0), fun j => Host.reduce_andi_eq_one _ _ _ _ _ hD j (funext fun a => a.elim0)⟩

/-- A word that is at least zero and below 256 read signed is below 256 read unsigned. -/
theorem toNat_of_range (x : BitVec 32) (h : IntOp.andi (IntOp.cmpi .sge x 0#32) (IntOp.cmpi .slt x 256#32) = 1#1) : x.toNat < 256 := by
  simp only [IntOp.cmpi] at h
  rw [WordCmp.andi_ofBool, WordCmp.ofBool_eq_one_iff, Bool.and_eq_true, BitVec.sle_eq_decide, BitVec.slt_eq_decide, decide_eq_true_eq, decide_eq_true_eq] at h
  have h0 : (0#32 : BitVec 32).toInt = 0 := by decide
  have h1 : (256#32 : BitVec 32).toInt = 256 := by decide
  rw [h0, h1] at h
  have := BitVec.toInt_eq_toNat_cond x
  split at this <;> omega

/-- A node's score. -/
theorem zs_at (i : Fin 100000) : zs r1 r5 (ix2 i 0) = ∑ e : Fin 128, r1 (ix2 i e) * r5 (ix2 ⟨128 + e.val, by omega⟩ 0) := by
  pointwise [zs]

/-- A graph's score. -/
theorem ss_at (b : Fin 256) : ss r0 r5 r6 (ix2 b 0) = ∑ e : Fin 128, r0 (ix2 b e) * r5 (ix2 ⟨e.val, by omega⟩ 0) + r6 (ix1 0) := by
  pointwise [ss]

/-- The condition on a graph number. -/
theorem cIds_at (i : Fin 100000) : cIds r2 (ix1 i) = IntOp.andi (IntOp.cmpi .sge (r2 (ix1 i)) 0#32) (IntOp.cmpi .slt (r2 (ix1 i)) 256#32) := by
  pointwise [cIds]

/-- A value below plus infinity in absolute value is a real number. -/
theorem finite_of {x : EReal} (h : max x (-x) < ⊤) : ∃ r : ℝ, x = (r : EReal) := by
  induction x using EReal.rec with
  | bot => simp at h
  | top => simp at h
  | coe r => exact ⟨r, rfl⟩

/-- The pattern of plus infinity. -/
theorem ofBits_inf : Ideal.ofBits FTy.f32 2139095040#32 = ⊤ := by simp [Ideal.ofBits, Ideal.ieee]

/-- A node's score is finite. -/
theorem cZ_at (z : FVec Ideal S100000x1 .f32) (i : Fin 100000) (h : cZ z (ix2 i 0) = 1#1) : ∃ r : ℝ, z (ix2 i 0) = (r : EReal) := by
  have e : cZ z (ix2 i 0) = BitVec.ofBool (decide (FloatOps.absf (z (ix2 i 0)) < Ideal.ofBits FTy.f32 2139095040#32)) := by pointwise [cZ]
  rw [e, WordCmp.ofBool_eq_one_iff, decide_eq_true_eq, ofBits_inf] at h
  exact finite_of h

/-- A graph's score is finite. -/
theorem cS_at (s : FVec Ideal S256x1 .f32) (b : Fin 256) (h : cS s (ix2 b 0) = 1#1) : ∃ r : ℝ, s (ix2 b 0) = (r : EReal) := by
  have e : cS s (ix2 b 0) = BitVec.ofBool (decide (FloatOps.absf (s (ix2 b 0)) < Ideal.ofBits FTy.f32 2139095040#32)) := by pointwise [cS]
  rw [e, WordCmp.ofBool_eq_one_iff, decide_eq_true_eq, ofBits_inf] at h
  exact finite_of h

/-- An entry is at most the fold of the maximum. -/
theorem le_fold {ι : Type} [Fintype ι] (f : ι → EReal) (c : EReal) (k : ι) : f k ≤ Finset.univ.fold max c f :=
  (Finset.le_fold_max _).mpr (Or.inr ⟨k, Finset.mem_univ _, le_refl _⟩)

/-- A node's exponential under the largest score. -/
theorem ez_at (z : FVec Ideal S100000x1 .f32) (i : Fin 100000) :
    ez z (ix2 i 0) = Ideal.exp (z (ix2 i 0) - Finset.univ.fold max ⊥ fun k : Fin 100000 × Fin 1 => z (ix2 k.1 k.2)) := by
  pointwise [ez]
  rw [ofBits_neg_inf]

/-- The sum over a graph. -/
theorem total_at (hids : ∀ i, (r2 (ix1 i)).toNat < 256) (e : FVec Ideal S100000x1 .f32) (b : Fin 256) :
    total r2 e (ix1 b) = ∑ i : Fin 100000, if Ref.gr r2 hids i = b then e (ix2 i 0) else 0 := by
  have e0 : Ideal.ofBits FTy.f32 0#32 = 0 := by simp [Ideal.ofBits, Ideal.ieee]
  pointwise [total, fn_where]
  refine Finset.sum_congr rfl fun i _ => ?_
  rw [Ref.select_member r2 hids]
  exact if_congr Iff.rfl rfl e0

/-- A sum that is not below zero or equal to it is at least the floor. -/
theorem cT_at (t : FVec Ideal S256 .f32) (b : Fin 256) (h : cT t (ix1 b) = 1#1) (hp : 0 < t (ix1 b)) : eps ≤ t (ix1 b) := by
  have e : cT t (ix1 b) = IntOp.ori (BitVec.ofBool (decide (t (ix1 b) ≤ 0))) (BitVec.ofBool (decide (eps ≤ t (ix1 b)))) := by
    pointwise [cT, eps]
  rw [e, decide_eq_false (not_le.mpr hp)] at h
  by_contra k
  rw [decide_eq_false k] at h
  exact absurd h (by decide)

/-- The sums of the weights against the largest score, of finite scores. -/
theorem total_coe (hids : ∀ i, (r2 (ix1 i)).toNat < 256) (z : FVec Ideal S100000x1 .f32) (zr : Fin 100000 → ℝ) (hz : ∀ i, z (ix2 i 0) = (zr i : EReal)) :
    ∃ k, (∀ j, zr j ≤ zr k) ∧ ∀ b, total r2 (ez z) (ix1 b) = ((∑ i, wt (Ref.gr r2 hids i = b) (zr i) (zr k) : ℝ) : EReal) := by
  obtain ⟨⟨k, k'⟩, hk, hm⟩ := fold_max_real (fun p : Fin 100000 × Fin 1 => zr p.1)
  have hf : (fun p : Fin 100000 × Fin 1 => z (ix2 p.1 p.2)) = fun p => (zr p.1 : EReal) := funext fun p => by
    rw [Subsingleton.elim p.2 0]; exact hz p.1
  refine ⟨k, fun j => hm (j, 0), fun b => ?_⟩
  rw [total_at r2 hids, coe_sum]
  refine Finset.sum_congr rfl fun i _ => ?_
  unfold wt
  split
  · rw [ez_at, hf, hk, hz, ← EReal.coe_sub, Ideal.exp_coe]
  · rfl

/-- What the precondition says. -/
theorem of_pre (h : Cert.Pre_tame.fn (F := Ideal) r0 r1 r2 r3 r4 r5 r6 = fun _ => 1#1) :
    ∃ hids : ∀ i : Fin 100000, (r2 (ix1 i)).toNat < 256,
    (∃ zr : Fin 100000 → ℝ, (∀ i, ∑ e : Fin 128, r1 (ix2 i e) * r5 (ix2 ⟨128 + e.val, by omega⟩ 0) = (zr i : EReal))
      ∧ ∀ i j, eps ≤ ((∑ k, wt (Ref.gr r2 hids k = Ref.gr r2 hids i) (zr k) (zr j) : ℝ) : EReal))
    ∧ ∃ sr : Fin 256 → ℝ, ∀ b, ∑ e : Fin 128, r0 (ix2 b e) * r5 (ix2 ⟨e.val, by omega⟩ 0) + r6 (ix1 0) = (sr b : EReal) := by
  obtain ⟨hI, hZ, hS, hT⟩ := conds r0 r1 r2 r3 r4 r5 r6 h
  choose zr hz using fun i : Fin 100000 => cZ_at _ i (hZ (ix2 i 0))
  choose sr hs using fun b : Fin 256 => cS_at _ b (hS (ix2 b 0))
  have hids : ∀ i : Fin 100000, (r2 (ix1 i)).toNat < 256 := fun i => toNat_of_range _ ((cIds_at r2 i).symm.trans (hI (ix1 i)))
  obtain ⟨k, hk, ht⟩ := total_coe r2 hids _ zr hz
  refine ⟨hids, ⟨zr, fun i => (zs_at r1 r5 i).symm.trans (hz i), fun i j => ?_⟩, sr, fun b => (ss_at r0 r5 r6 b).symm.trans (hs b)⟩
  have hpos : 0 < ∑ l, wt (Ref.gr r2 hids l = Ref.gr r2 hids i) (zr l) (zr k) :=
    Finset.sum_pos' (fun l _ => wt_nonneg _ _ _) ⟨i, Finset.mem_univ i, by unfold wt; rw [if_pos rfl]; exact Real.exp_pos _⟩
  have hle := cT_at _ _ (hT (ix1 (Ref.gr r2 hids i))) (by rw [ht]; exact EReal.coe_pos.mpr hpos)
  rw [ht] at hle
  exact hle.trans (EReal.coe_le_coe_iff.mpr (Finset.sum_le_sum fun l _ => wt_anti _ _ (hk j)))

end Cert.Proof.Value.Tame

end
-- ==== Proof.Claims.Frames.lean ====
/-
  The frames of the three programs and the named constants.
-/
module

public import proofs.«01_k».proof.Defs
public import proofs.«01_k».proof.Proof.KI.Args
public import proofs.«01_k».proof.Proof.KB.Args
public import proofs.«01_k».proof.Proof.Gen.ReferenceIdeal.Run
public import proofs.«01_k».proof.Proof.Gen.Pre_ids_in_range
public import proofs.«01_k».proof.Proof.Value.Tame

@[expose] public section

noncomputable section

namespace Cert.Proof

open Idealize.ShloMosaic Idealize.SL.Sem

/-- The graph numbers are in range where the precondition is all ones. -/
theorem ids_of_pre {F : FTy → Type} [FloatOps F] (a0 a1 a2 a3 a4 a5 a6)
    (h : Cert.Pre_ids_in_range.fn (F := F) a0 a1 a2 a3 a4 a5 a6 = fun _ => 1#1) (j : Cert.Pre_ids_in_range.S100000.Idx) : (a2 j).toNat < 256 :=
  Value.Tame.toNat_of_range (a2 j) (congrFun h j)

/-- The kernel as printed runs, its arguments unchanged, every counter back at zero. -/
theorem frame_p : Cert.quiescent_Kernel := fun m ρ hpre =>
  (θ_run Cert.Kernel.defs _ _).mono (fun _ h => ⟨fun c => (h.1 c).2.2, h.2⟩)
    (KB.run_claim (F := Bits) m ρ fun d j => ids_of_pre _ _ _ _ _ _ _ (hpre d) j)

/-- So does the kernel over the extended reals. -/
theorem frame_pi : Cert.quiescent_KernelIdeal := fun m ρ hpre =>
  (θ_run Cert.KernelIdeal.defs _ _).mono (fun _ h => ⟨fun c => (h.1 c).2.2, h.2⟩)
    (KI.run_claim (F := Ideal) m ρ fun d j => ids_of_pre _ _ _ _ _ _ _ (hpre d) j)

/-- The reference runs, its arguments unchanged; it has no semaphore. -/
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The two named constants are what the table says. -/
theorem preserves : Cert.preserves_Kernel_KernelIdeal :=
  ⟨IdealRules.named_const.statement Cert.KernelIdeal.κ "mask" .f32 0xFF7F0000#32 ⊥ rfl,
    IdealRules.named_const.statement Cert.KernelIdeal.κ "slope" .bf16 0x3E4D#16 ((13421773 / 67108864 : ℝ) : EReal) rfl⟩

end Cert.Proof

end
-- ==== Proof.Value.Final.lean ====
/-
  What the TensorCore region's three output arrays hold when it has run.
-/
module

public import proofs.«01_k».proof.Proof.KI.Seg

@[expose] public section

set_option maxRecDepth 16384

noncomputable section

namespace Cert.Proof.Value

open Cert.KernelIdeal Cert.KernelIdeal.Gen Cert.Proof.KI

open Idealize.ShloMosaic Idealize.ShloMosaic.TcCoe
open Idealize.SL.Sem
open Idealize.ShloMosaic.Pipeline (Dat Cfg Window afterRegion)

variable {F : FTy → Type} [FloatOps F] [Named F] (V : Entry F)

/-- Grid point `n`. -/
abbrev pt (n : Fin 10) : Fin cfg0.N := ⟨n.val, lt_of_lt_of_eq n.isLt N_0.symm⟩

set_option backward.proofsInPublic true in
/-- An index of a block of scores, of its place. -/
abbrev blkIx (k : Fin 10000) : S1x1x10000.Idx := fun a => match a with
  | ⟨0, _⟩ => ⟨0, Nat.one_pos⟩
  | ⟨1, _⟩ => ⟨0, Nat.one_pos⟩
  | ⟨2, _⟩ => ⟨k.val, k.isLt⟩

/-- The nodes' scores: block by block, the block's. -/
def G8 (c : Dev nD) : Buf (Elt F) ((c : Thread nD τ).loc main_v8_0) := fun i : S10x1x10000.Idx =>
  k0_pay7 (iblk V c 0 (pt ⟨(i 0).val, (i 0).isLt⟩)) (iblk V c 5 (pt ⟨(i 0).val, (i 0).isLt⟩)) (blkIx ⟨(i 2).val, (i 2).isLt⟩)

/-- Window 8's block index at a point is the point. -/
theorem idx_facts8 : ∀ t : Fin cfg0.N, win0_8.index t (0 : Fin 3) = t.val ∧ win0_8.index t (1 : Fin 3) = 0 ∧ win0_8.index t (2 : Fin 3) = 0 :=
  (by decide +kernel : ∀ t : Fin grid0.N, _)

/-- Every step writes its own block of the scores. -/
theorem flushed8_eq (c : Dev nD) (t : Fin cfg0.N) : (dats V 0 c).flushed 8 t = ((cfg0.win 8).blk t).view.read (Elt F) (G8 V c) := by
  show (cfg0.win 8).cut (grid0.coords t) ((dats V 0 c).after 8 t) = _
  rw [after_8]
  obtain ⟨e0, e1, e2⟩ := idx_facts8 t
  funext y
  have hy0 : (y 0).val < 1 := (y 0).isLt
  have hy1 : (y 1).val < 1 := (y 1).isLt
  have hy2 : (y 2).val < 10000 := (y 2).isLt
  have hb0 : (((cfg0.win 8).blk t).view.emb y 0).val = win0_8.index t (0 : Fin 3) * 1 + 1 * (y 0).val := rfl
  have hb2 : (((cfg0.win 8).blk t).view.emb y 2).val = win0_8.index t (2 : Fin 3) * 10000 + 1 * (y 2).val := rfl
  have hp : pt ⟨(((cfg0.win 8).blk t).view.emb y 0).val, (((cfg0.win 8).blk t).view.emb y 0).isLt⟩ = t := Fin.ext (by
    show (((cfg0.win 8).blk t).view.emb y 0).val = t.val; rw [hb0]; omega)
  have hl : blkIx ⟨(((cfg0.win 8).blk t).view.emb y 2).val, (((cfg0.win 8).blk t).view.emb y 2).isLt⟩ = (cfg0.win 8).xinj (grid0.coords t) y := by
    funext a; apply Fin.ext
    match a with
    | ⟨0, _⟩ => show 0 = (y 0).val; omega
    | ⟨1, _⟩ => show 0 = (y 1).val; omega
    | ⟨2, _⟩ => show (((cfg0.win 8).blk t).view.emb y 2).val = (y 2).val; rw [hb2]; omega
  show k0_pay7 (iblk V c 0 t) (iblk V c 5 t) ((cfg0.win 8).xinj (grid0.coords t) y) = G8 V c (((cfg0.win 8).blk t).view.emb y)
  unfold G8
  rw [hp, hl]

/-- A block of the scores is its step's. -/
theorem mem_blk8 (t : Fin cfg0.N) (i : S10x1x10000.Idx) :
    i ∈ ((cfg0.win 8).blk t).view.set ↔ ∀ a : Fin 3, win0_8.index t a * S1x1x10000.size a ≤ (i a).val ∧ (i a).val < win0_8.index t a * S1x1x10000.size a + S1x1x10000.size a := by
  show i ∈ ((View.whole main_v8_0).slice (win0_8.rect t)).set ↔ _
  rw [View.set_slice_whole, Rect.mem_set_unit]
  exact Iff.rfl

/-- The array of the nodes' scores after the region. -/
theorem final8 (c : Dev nD) : (dats V 0 c).arrAt 8 cfg0.N = G8 V c :=
  (dats V 0 c).arrAt_eq_of_cover 8 _ (fun t _ => flushed8_eq V c t) fun i => by
    have hi0 : (i 0).val < 10 := (i 0).isLt
    have hi1 : (i 1).val < 1 := (i 1).isLt
    have hi2 : (i 2).val < 10000 := (i 2).isLt
    obtain ⟨e0, e1, e2⟩ := idx_facts8 (pt ⟨(i 0).val, hi0⟩)
    refine ⟨pt ⟨(i 0).val, hi0⟩, flush0_8 _, ?_⟩
    rw [mem_blk8]
    intro a
    match a with
    | ⟨0, _⟩ => show win0_8.index _ (0 : Fin 3) * 1 ≤ (i 0).val ∧ (i 0).val < win0_8.index _ (0 : Fin 3) * 1 + 1; rw [e0]; dsimp only; omega
    | ⟨1, _⟩ => show win0_8.index _ (1 : Fin 3) * 1 ≤ (i 1).val ∧ (i 1).val < win0_8.index _ (1 : Fin 3) * 1 + 1; omega
    | ⟨2, _⟩ => show win0_8.index _ (2 : Fin 3) * 10000 ≤ (i 2).val ∧ (i 2).val < win0_8.index _ (2 : Fin 3) * 10000 + 10000; omega

/-- The features' result: the last running sum, finished. -/
def G9 (c : Dev nD) : Buf (Elt F) ((c : Thread nD τ).loc main_v8_1) := k0_pay18 (acc V c 10).2.2 (acc V c 10).2.1

/-- Windows 9 and 10 have one block each. -/
theorem idx_facts9 : ∀ t : Fin cfg0.N, win0_9.index t (0 : Fin 2) = 0 ∧ win0_9.index t (1 : Fin 2) = 0 :=
  (by decide +kernel : ∀ t : Fin grid0.N, _)
/-- The graphs' scores are one block. -/
theorem idx_facts10 : ∀ t : Fin cfg0.N, win0_10.index t (0 : Fin 2) = 0 ∧ win0_10.index t (1 : Fin 2) = 0 :=
  (by decide +kernel : ∀ t : Fin grid0.N, _)

/-- The last step writes the attended states. -/
theorem flushed9_eq (c : Dev nD) (t : Fin cfg0.N) (hf : (cfg0.win 9).flush t = true) :
    (dats V 0 c).flushed 9 t = ((cfg0.win 9).blk t).view.read (Elt F) (G9 V c) := by
  show (cfg0.win 9).cut (grid0.coords t) ((dats V 0 c).after 9 t) = _
  have hN : t.val < 10 := lt_of_lt_of_eq t.isLt (show cfg0.N = 10 from N_0)
  have ht : t.val = 9 := by have := (flush0_9 t).mp hf; omega
  rw [after_9]
  unfold outA
  rw [if_pos ht, ht]
  obtain ⟨e0, e1⟩ := idx_facts9 t
  funext y
  have hl : ((cfg0.win 9).blk t).view.emb y = (cfg0.win 9).xinj (grid0.coords t) y := by
    funext a; apply Fin.ext
    match a with
    | ⟨0, _⟩ => show win0_9.index t (0 : Fin 2) * 256 + 1 * (y 0).val = (y 0).val; omega
    | ⟨1, _⟩ => show win0_9.index t (1 : Fin 2) * 128 + 1 * (y 1).val = (y 1).val; omega
  show k0_pay18 (acc V c 10).2.2 (acc V c 10).2.1 ((cfg0.win 9).xinj (grid0.coords t) y) = G9 V c (((cfg0.win 9).blk t).view.emb y)
  unfold G9
  rw [hl]

/-- The array of the features after the region. -/
theorem final9 (c : Dev nD) : (dats V 0 c).arrAt 9 cfg0.N = G9 V c :=
  (dats V 0 c).arrAt_eq_of_cover 9 _ (fun t hf => flushed9_eq V c t hf) fun i => by
    have hi0 : (i 0).val < 256 := (i 0).isLt
    have hi1 : (i 1).val < 128 := (i 1).isLt
    obtain ⟨e0, e1⟩ := idx_facts9 (pt 9)
    refine ⟨pt 9, (flush0_9 _).mpr rfl, ?_⟩
    show i ∈ ((View.whole main_v8_1).slice (win0_9.rect (pt 9))).set
    rw [View.set_slice_whole, Rect.mem_set_unit]
    intro a
    match a with
    | ⟨0, _⟩ => show win0_9.index _ (0 : Fin 2) * 256 ≤ (i 0).val ∧ (i 0).val < win0_9.index _ (0 : Fin 2) * 256 + 256; omega
    | ⟨1, _⟩ => show win0_9.index _ (1 : Fin 2) * 128 ≤ (i 1).val ∧ (i 1).val < win0_9.index _ (1 : Fin 2) * 128 + 128; omega

/-- The states' scores, as the array's contents. -/
def G10 (c : Dev nD) : Buf (Elt F) ((c : Thread nD τ).loc main_v8_2) := scores V c

/-- Every step writes the graphs' scores. -/
theorem flushed10_eq (c : Dev nD) (t : Fin cfg0.N) : (dats V 0 c).flushed 10 t = ((cfg0.win 10).blk t).view.read (Elt F) (G10 V c) := by
  show (cfg0.win 10).cut (grid0.coords t) ((dats V 0 c).after 10 t) = _
  rw [after_10]
  obtain ⟨e0, e1⟩ := idx_facts10 t
  funext y
  have hl : ((cfg0.win 10).blk t).view.emb y = (cfg0.win 10).xinj (grid0.coords t) y := by
    funext a; apply Fin.ext
    match a with
    | ⟨0, _⟩ => show win0_10.index t (0 : Fin 2) * 256 + 1 * (y 0).val = (y 0).val; omega
    | ⟨1, _⟩ => show win0_10.index t (1 : Fin 2) * 1 + 1 * (y 1).val = (y 1).val; omega
  show scores V c ((cfg0.win 10).xinj (grid0.coords t) y) = G10 V c (((cfg0.win 10).blk t).view.emb y)
  unfold G10
  rw [hl]

/-- The array of the states' scores after the region. -/
theorem final10 (c : Dev nD) : (dats V 0 c).arrAt 10 cfg0.N = G10 V c :=
  (dats V 0 c).arrAt_eq_of_cover 10 _ (fun t _ => flushed10_eq V c t) fun i => by
    have hi0 : (i 0).val < 256 := (i 0).isLt
    have hi1 : (i 1).val < 1 := (i 1).isLt
    obtain ⟨e0, e1⟩ := idx_facts10 (pt 9)
    refine ⟨pt 9, (flush0_10 _).mpr rfl, ?_⟩
    show i ∈ ((View.whole main_v8_2).slice (win0_10.rect (pt 9))).set
    rw [View.set_slice_whole, Rect.mem_set_unit]
    intro a
    match a with
    | ⟨0, _⟩ => show win0_10.index _ (0 : Fin 2) * 256 ≤ (i 0).val ∧ (i 0).val < win0_10.index _ (0 : Fin 2) * 256 + 256; omega
    | ⟨1, _⟩ => show win0_10.index _ (1 : Fin 2) * 1 ≤ (i 1).val ∧ (i 1).val < win0_10.index _ (1 : Fin 2) * 1 + 1; omega

variable (W : Dev nD → Valuation τ sig (Elt F))

/-- The three outputs after the region. -/
theorem left_v8_0 (c : Dev nD) : left W c (Proc.devRef .tc main_v8_0) = G8 (ent W) c :=
  (Pipeline.afterRegion_arr (dats (ent W) 0 c) (W c) launch0.win.arr_inj 8).trans (final8 (ent W) c)
/-- The attended states after the call. -/
theorem left_v8_1 (c : Dev nD) : left W c (Proc.devRef .tc main_v8_1) = G9 (ent W) c :=
  (Pipeline.afterRegion_arr (dats (ent W) 0 c) (W c) launch0.win.arr_inj 9).trans (final9 (ent W) c)
/-- The graphs' scores after the call. -/
theorem left_v8_2 (c : Dev nD) : left W c (Proc.devRef .tc main_v8_2) = G10 (ent W) c :=
  (Pipeline.afterRegion_arr (dats (ent W) 0 c) (W c) launch0.win.arr_inj 10).trans (final10 (ent W) c)

end Cert.Proof.Value

end
-- ==== Proof.Value.Entry.lean ====
/-
  What the TensorCore region's input arrays hold when it is entered, and each window's block, read at an index.
-/
module

public import proofs.«01_k».proof.Proof.KI.Args
public import proofs.«01_k».proof.Proof.Value.Final
public import Idealize.ShloMosaic.Lib.Pointwise

@[expose] public section

set_option maxRecDepth 16384

noncomputable section

namespace Cert.Proof.Value

open Cert.KernelIdeal Cert.KernelIdeal.Gen Cert.Proof.KI

open Idealize.ShloMosaic
open Idealize.ShloMosaic.Pointwise
open Idealize.ShloMosaic.StableHlo (after)

variable (m : (ℓ : Loc nD τ sig) → Buf (Elt Ideal) ℓ) (d : Dev nD)

/-- The arguments of a device. -/
def a0 : Vec Ideal S256x128 .f32 := m (d, Proc.devRef .tc main_arg0)
def a1 : Vec Ideal S100000x128 .f32 := m (d, Proc.devRef .tc main_arg1)
def a2 : Vec Ideal S100000 .i32 := m (d, Proc.devRef .tc main_arg2)
def a3 : Vec Ideal S128x128 .f32 := m (d, Proc.devRef .tc main_arg3)
def a4 : Vec Ideal S128 .f32 := m (d, Proc.devRef .tc main_arg4)
def a5 : Vec Ideal S256x1 .f32 := m (d, Proc.devRef .tc main_arg5)
def a6 : Vec Ideal S1 .f32 := m (d, Proc.devRef .tc main_arg6)

theorem W1_v0 : W1 m d (Proc.devRef .tc main_v0) = shapeCast S10x1x10000 (a2 m d) shapeCasts_S100000_S10x1x10000 := by
  unfold W1 ops1
  after_results_simp
  rfl
theorem W1_v1 : W1 m d (Proc.devRef .tc main_v1) = extractStridedSlice S128x1 ![0, 0] (a5 m d) slices_S256x1_S128x1_0_0 := by
  unfold W1 ops1
  after_results_simp
  rfl
theorem W1_v3 : W1 m d (Proc.devRef .tc main_v3) = truncf (F := Ideal) (φ := .f32) .bf16 (extractStridedSlice S128x1 ![128, 0] (a5 m d) slices_S256x1_S128x1_128_0) bitsLt_bf16_f32 := by
  unfold W1 ops1
  after_results_simp
  rfl
theorem W1_v5 : W1 m d (Proc.devRef .tc main_v5) = truncf (F := Ideal) (φ := .f32) .bf16 (shapeCast S1x128 (a4 m d) shapeCasts_S128_S1x128) bitsLt_bf16_f32 := by
  unfold W1 ops1
  after_results_simp
  rfl
theorem W1_v6 : W1 m d (Proc.devRef .tc main_v6) = shapeCast S1x1 (a6 m d) shapeCasts_S1_S1x1 := by
  unfold W1 ops1
  after_results_simp
  rfl
theorem W1_v7 : W1 m d (Proc.devRef .tc main_v7) = truncf (F := Ideal) (φ := .f32) .bf16 (a3 m d) bitsLt_bf16_f32 := by
  unfold W1 ops1
  after_results_simp
  rfl

/-- Place `k` of block `n`. -/
abbrev node (n : Fin 10) (k : Fin 10000) : Fin 100000 := ⟨10000 * n.val + k.val, by omega⟩

theorem idx_facts0 : ∀ t : Fin cfg0.N, win0_0.index t (0 : Fin 2) = t.val ∧ win0_0.index t (1 : Fin 2) = 0 :=
  (by decide +kernel : ∀ t : Fin grid0.N, _)
theorem idx_facts1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx_facts2 : ∀ t : Fin cfg0.N, win0_2.index t (0 : Fin 2) = 0 ∧ win0_2.index t (1 : Fin 2) = 0 :=
  (by decide +kernel : ∀ t : Fin grid0.N, _)
theorem idx_facts3 : ∀ t : Fin cfg0.N, win0_3.index t (0 : Fin 2) = 0 ∧ win0_3.index t (1 : Fin 2) = 0 :=
  (by decide +kernel : ∀ t : Fin grid0.N, _)
theorem idx_facts4 : ∀ t : Fin cfg0.N, win0_4.index t (0 : Fin 2) = 0 ∧ win0_4.index t (1 : Fin 2) = 0 :=
  (by decide +kernel : ∀ t : Fin grid0.N, _)
theorem idx_facts5 : ∀ t : Fin cfg0.N, win0_5.index t (0 : Fin 2) = 0 ∧ win0_5.index t (1 : Fin 2) = 0 :=
  (by decide +kernel : ∀ t : Fin grid0.N, _)
theorem idx_facts6 : ∀ t : Fin cfg0.N, win0_6.index t (0 : Fin 2) = 0 ∧ win0_6.index t (1 : Fin 2) = 0 :=
  (by decide +kernel : ∀ t : Fin grid0.N, _)
theorem idx_facts7 : ∀ t : Fin cfg0.N, win0_7.index t (0 : Fin 2) = 0 ∧ win0_7.index t (1 : Fin 2) = 0 :=
  (by decide +kernel : ∀ t : Fin grid0.N, _)

/-- The region's entry contents. -/
abbrev EV : Entry Ideal := ent (W1 m)

theorem blk0 (n : Fin 10) (k : Fin 10000) (e : Fin 128) : (iblk (EV m) d 0 (pt n) : Vec Ideal S10000x128 .f32) (ix2 k e) = a1 m d (ix2 (node n k) e) := by
  obtain ⟨e0, e1⟩ := idx_facts0 (pt n)
  show W1 m d (Proc.devRef .tc main_arg1) (((cfg0.win 0).blk (pt n)).view.emb (ix2 k e)) = _
  rw [W1_of m d (by decide)]
  show a1 m d _ = _
  congr 1
  funext a; apply Fin.ext
  match a with
  | ⟨0, _⟩ => show win0_0.index (pt n) (0 : Fin 2) * 10000 + 1 * k.val = 10000 * n.val + k.val; rw [e0]; dsimp only; omega
  | ⟨1, _⟩ => show win0_0.index (pt n) (1 : Fin 2) * 128 + 1 * e.val = e.val; rw [e1]; omega

/-- The upper and the lower half of the scores' weights. -/
abbrev up (e : Fin 128) : Fin 256 := ⟨e.val, by omega⟩
abbrev lo (e : Fin 128) : Fin 256 := ⟨128 + e.val, by omega⟩

theorem v0_at (n : Fin 10) (k : Fin 10000) : shapeCast S10x1x10000 (a2 m d) shapeCasts_S100000_S10x1x10000 (ix3 n 0 k) = a2 m d (ix1 (node n k)) := by
  pointwise
  congr 2
  exact Fin.ext (by show n.val * 10000 + k.val = 10000 * n.val + k.val; omega)
theorem v1_at (e : Fin 128) : extractStridedSlice S128x1 ![0, 0] (a5 m d) slices_S256x1_S128x1_0_0 (ix2 e 0) = a5 m d (ix2 (up e) 0) := by
  pointwise
theorem v3_at (e : Fin 128) : truncf (F := Ideal) (φ := .f32) .bf16 (extractStridedSlice S128x1 ![128, 0] (a5 m d) slices_S256x1_S128x1_128_0) bitsLt_bf16_f32 (ix2 e 0) = a5 m d (ix2 (lo e) 0) := by
  pointwise
theorem v5_at (u : Fin 128) : truncf (F := Ideal) (φ := .f32) .bf16 (shapeCast S1x128 (a4 m d) shapeCasts_S128_S1x128) bitsLt_bf16_f32 (ix2 0 u) = a4 m d (ix1 u) := by
  pointwise
theorem v6_at : shapeCast S1x1 (a6 m d) shapeCasts_S1_S1x1 (ix2 0 0) = a6 m d (ix1 0) := by
  pointwise

theorem blk1 (n : Fin 10) (k : Fin 10000) : (iblk (EV m) d 1 (pt n) : Vec Ideal S1x1x10000 .i32) (ix3 0 0 k) = a2 m d (ix1 (node n k)) := by
  obtain ⟨e0, e1, e2⟩ := idx_facts1 (pt n)
  show W1 m d (Proc.devRef .tc main_v0) (((cfg0.win 1).blk (pt n)).view.emb (ix3 0 0 k)) = _
  rw [W1_v0]
  refine Eq.trans (congrArg _ ?_) (v0_at m d n k)
  funext a; apply Fin.ext
  match a with
  | ⟨0, _⟩ => show win0_1.index (pt n) (0 : Fin 3) * 1 + 1 * 0 = n.val; rw [e0]; dsimp only; omega
  | ⟨1, _⟩ => show win0_1.index (pt n) (1 : Fin 3) * 1 + 1 * 0 = 0; rw [e1]
  | ⟨2, _⟩ => show win0_1.index (pt n) (2 : Fin 3) * 10000 + 1 * k.val = k.val; rw [e2]; omega

theorem blk2 (t : Fin cfg0.N) (b : Fin 256) (e : Fin 128) : (iblk (EV m) d 2 t : Vec Ideal S256x128 .f32) (ix2 b e) = a0 m d (ix2 b e) := by
  obtain ⟨e0, e1⟩ := idx_facts2 t
  show W1 m d (Proc.devRef .tc main_arg0) (((cfg0.win 2).blk t).view.emb (ix2 b e)) = _
  rw [W1_of m d (by decide)]
  show a0 m d _ = _
  congr 1
  funext a; apply Fin.ext
  match a with
  | ⟨0, _⟩ => show win0_2.index t (0 : Fin 2) * 256 + 1 * b.val = b.val; rw [e0]; omega
  | ⟨1, _⟩ => show win0_2.index t (1 : Fin 2) * 128 + 1 * e.val = e.val; rw [e1]; omega

theorem blk3 (t : Fin cfg0.N) (e u : Fin 128) : (iblk (EV m) d 3 t : Vec Ideal S128x128 .bf16) (ix2 e u) = a3 m d (ix2 e u) := by
  obtain ⟨e0, e1⟩ := idx_facts3 t
  show W1 m d (Proc.devRef .tc main_v7) (((cfg0.win 3).blk t).view.emb (ix2 e u)) = _
  rw [W1_v7]
  show a3 m d _ = _
  congr 1
  funext a; apply Fin.ext
  match a with
  | ⟨0, _⟩ => show win0_3.index t (0 : Fin 2) * 128 + 1 * e.val = e.val; rw [e0]; omega
  | ⟨1, _⟩ => show win0_3.index t (1 : Fin 2) * 128 + 1 * u.val = u.val; rw [e1]; omega

theorem blk4 (t : Fin cfg0.N) (e : Fin 128) : (iblk (EV m) d 4 t : Vec Ideal S128x1 .f32) (ix2 e 0) = a5 m d (ix2 (up e) 0) := by
  obtain ⟨e0, e1⟩ := idx_facts4 t
  show W1 m d (Proc.devRef .tc main_v1) (((cfg0.win 4).blk t).view.emb (ix2 e 0)) = _
  rw [W1_v1]
  refine Eq.trans (congrArg _ ?_) (v1_at m d e)
  funext a; apply Fin.ext
  match a with
  | ⟨0, _⟩ => show win0_4.index t (0 : Fin 2) * 128 + 1 * e.val = e.val; rw [e0]; omega
  | ⟨1, _⟩ => show win0_4.index t (1 : Fin 2) * 1 + 1 * 0 = 0; rw [e1]

theorem blk5 (t : Fin cfg0.N) (e : Fin 128) : (iblk (EV m) d 5 t : Vec Ideal S128x1 .bf16) (ix2 e 0) = a5 m d (ix2 (lo e) 0) := by
  obtain ⟨e0, e1⟩ := idx_facts5 t
  show W1 m d (Proc.devRef .tc main_v3) (((cfg0.win 5).blk t).view.emb (ix2 e 0)) = _
  rw [W1_v3]
  refine Eq.trans (congrArg _ ?_) (v3_at m d e)
  funext a; apply Fin.ext
  match a with
  | ⟨0, _⟩ => show win0_5.index t (0 : Fin 2) * 128 + 1 * e.val = e.val; rw [e0]; omega
  | ⟨1, _⟩ => show win0_5.index t (1 : Fin 2) * 1 + 1 * 0 = 0; rw [e1]

theorem blk6 (t : Fin cfg0.N) (u : Fin 128) : (iblk (EV m) d 6 t : Vec Ideal S1x128 .bf16) (ix2 0 u) = a4 m d (ix1 u) := by
  obtain ⟨e0, e1⟩ := idx_facts6 t
  show W1 m d (Proc.devRef .tc main_v5) (((cfg0.win 6).blk t).view.emb (ix2 0 u)) = _
  rw [W1_v5]
  refine Eq.trans (congrArg _ ?_) (v5_at m d u)
  funext a; apply Fin.ext
  match a with
  | ⟨0, _⟩ => show win0_6.index t (0 : Fin 2) * 1 + 1 * 0 = 0; rw [e0]
  | ⟨1, _⟩ => show win0_6.index t (1 : Fin 2) * 128 + 1 * u.val = u.val; rw [e1]; omega

theorem blk7 (t : Fin cfg0.N) : (iblk (EV m) d 7 t : Vec Ideal S1x1 .f32) (ix2 0 0) = a6 m d (ix1 0) := by
  obtain ⟨e0, e1⟩ := idx_facts7 t
  show W1 m d (Proc.devRef .tc main_v6) (((cfg0.win 7).blk t).view.emb (ix2 0 0)) = _
  rw [W1_v6]
  refine Eq.trans (congrArg _ ?_) (v6_at m d)
  funext a; apply Fin.ext
  match a with
  | ⟨0, _⟩ => show win0_7.index t (0 : Fin 2) * 1 + 1 * 0 = 0; rw [e0]
  | ⟨1, _⟩ => show win0_7.index t (1 : Fin 2) * 1 + 1 * 0 = 0; rw [e1]

end Cert.Proof.Value

end
-- ==== Proof.Value.Pay.lean ====
/-
  The TensorCore body's values, read at an index.
-/
module

public import proofs.«01_k».proof.Proof.KI.Body
public import proofs.«01_k».proof.Proof.Value.Math
public import Idealize.ShloMosaic.Lib.Pointwise

@[expose] public section

set_option maxRecDepth 16384

noncomputable section

namespace Cert.Proof.Value

open Cert.KernelIdeal Cert.KernelIdeal.Gen Cert.Proof.KI

open Idealize.ShloMosaic
open Idealize.ShloMosaic.Pointwise

variable (x0 : Vec Ideal S10000x128 .f32) (x1 : Vec Ideal S1x1x10000 .i32) (x3 : Vec Ideal S128x128 .bf16) (x5 : Vec Ideal S128x1 .bf16) (x6 : Vec Ideal S1x128 .bf16)

/-- A node's score in its block. -/
def zb (k : Fin 10000) : EReal := ∑ d : Fin 128, x5 (ix2 d 0) * x0 (ix2 k d)

/-- A block's scores, -/
theorem pay6_at (k : Fin 10000) : k0_pay6 (F := Ideal) x0 x5 (ix2 0 k) = zb x0 x5 k := by
  pointwise [k0_pay6, k0_pay5, zb]

/-- as written out, -/
theorem pay7_at (k : Fin 10000) : k0_pay7 (F := Ideal) x0 x5 (ix3 0 0 k) = zb x0 x5 k := by
  pointwise [k0_pay7, k0_pay6, k0_pay5, zb]

/-- A block's largest score. -/
def mb : EReal := Finset.univ.fold max ⊥ fun k : Fin 10000 => zb x0 x5 k

/-- and their maximum. -/
theorem pay9_at : k0_pay9 (F := Ideal) x0 x5 (ix2 0 0) = mb x0 x5 := by
  pointwise [k0_pay9, k0_pay6, k0_pay5, mb, zb]
  rw [ofBits_neg_inf]

/-- The next running maximum. -/
theorem stepM_at (a : Vec Ideal S256x1 .f32) (b : Fin 256) : stepM x0 x5 a (ix2 b 0) = max (a (ix2 b 0)) (mb x0 x5) := by
  pointwise [stepM, k0_pay13, k0_pay10]
  rw [← pay9_at]

/-- A node's exponential under its block's maximum. -/
theorem pay14_at (b : Fin 256) (k : Fin 10000) : k0_pay14 (F := Ideal) x0 x5 (ix2 b k) = Ideal.exp (zb x0 x5 k - mb x0 x5) := by
  pointwise [k0_pay14]
  rw [← pay9_at, ← pay6_at]

/-- A lane is on where the node is of the lane's graph. -/
theorem pay8_at (b : Fin 256) (k : Fin 10000) (h : (x1 (ix3 0 0 k)).toNat < 256) :
    k0_pay8 (F := Ideal) x1 (ix2 b k) = if (x1 (ix3 0 0 k)).toNat = b.val then 1#1 else 0#1 := by
  pointwise [k0_pay8]
  have e : (BitVec.setWidth 16 (x1 (ix3 0 0 k)) = BitVec.ofNat 16 b.val) ↔ (x1 (ix3 0 0 k)).toNat = b.val := by
    rw [← BitVec.toNat_inj, BitVec.toNat_setWidth, BitVec.toNat_ofNat, Nat.mod_eq_of_lt (by omega), Nat.mod_eq_of_lt (by omega)]
  unfold IntOp.cmpi
  by_cases hb : (x1 (ix3 0 0 k)).toNat = b.val
  · rw [if_pos hb, e.mpr hb]; simp
  · rw [if_neg hb]
    show BitVec.ofBool (BitVec.setWidth 16 (x1 (ix3 0 0 k)) == BitVec.ofNat 16 b.val) = 0#1
    rw [beq_eq_false_iff_ne.mpr (mt e.mp hb)]; rfl

/-- A node's feature before its weight. -/
def feat (x0 : Vec Ideal S10000x128 .f32) (x3 : Vec Ideal S128x128 .bf16) (x6 : Vec Ideal S1x128 .bf16) (k : Fin 10000) (u : Fin 128) : EReal :=
  ∑ d : Fin 128, x0 (ix2 k d) * x3 (ix2 d u) + x6 (ix2 0 u)

/-- The named slope. -/
theorem named_slope : (Named.named κ "slope" 15949#16 : Ideal .bf16) = slope := rfl

/-- The named mask. -/
theorem named_mask : (Named.named κ "mask" 4286513152#32 : Ideal .f32) = ⊥ := rfl

/-- A choice by a decided bit. -/
theorem select_ite (p : Prop) [Decidable p] (x y : EReal) : Scalar.select (if p then 1#1 else 0#1) x y = if p then x else y := by
  by_cases h : p <;> simp [h, Scalar.select]

/-- The next running sum. -/
theorem stepS_at (a s : Vec Ideal S256x1 .f32) (b : Fin 256) (h : ∀ k, (x1 (ix3 0 0 k)).toNat < 256) : stepS x0 x1 x5 a s (ix2 b 0) =
    s (ix2 b 0) * Ideal.exp (a (ix2 b 0) - max (a (ix2 b 0)) (mb x0 x5)) + Ideal.exp (mb x0 x5 - max (a (ix2 b 0)) (mb x0 x5)) *
      ∑ k, (if (x1 (ix3 0 0 k)).toNat = b.val then Ideal.exp (zb x0 x5 k - mb x0 x5) else 0) * 1 := by
  pointwise [stepS, k0_pay16, k0_pay11, k0_pay12, k0_pay10, k0_pay15]
  simp only [pay9_at, pay14_at, fun k => pay8_at x1 b k (h k), select_ite]

/-- The next running weighted sum. -/
theorem stepA_at (a : Vec Ideal S256x1 .f32) (s : Vec Ideal S256x128 .f32) (b : Fin 256) (u : Fin 128) (h : ∀ k, (x1 (ix3 0 0 k)).toNat < 256) :
    stepA x0 x1 x3 x5 x6 a s (ix2 b u) =
    s (ix2 b u) * Ideal.exp (a (ix2 b 0) - max (a (ix2 b 0)) (mb x0 x5)) + Ideal.exp (mb x0 x5 - max (a (ix2 b 0)) (mb x0 x5)) *
      ∑ k, (if (x1 (ix3 0 0 k)).toNat = b.val then Ideal.exp (zb x0 x5 k - mb x0 x5) else 0) * leaky (feat x0 x3 x6 k u) := by
  pointwise [stepA, k0_pay17, k0_pay5, k0_pay11, k0_pay12, k0_pay10, k0_pay15, leaky, feat]
  simp only [pay9_at, pay14_at, fun k => pay8_at x1 b k (h k), select_ite, named_slope, ite_mul, zero_mul]

/-- The finish: the weighted sum over the floored sum, and its rectifier. -/
theorem pay18_at (A : Vec Ideal S256x128 .f32) (s : Vec Ideal S256x1 .f32) (b : Fin 256) (u : Fin 128) :
    k0_pay18 (F := Ideal) A s (ix2 b u) = elu (Ideal.div (A (ix2 b u)) (max (s (ix2 b 0)) eps)) := by
  pointwise [k0_pay18, elu, eps]

/-- A graph's score. -/
theorem pay4_at (x2 : Vec Ideal S256x128 .f32) (x4 : Vec Ideal S128x1 .f32) (x7 : Vec Ideal S1x1 .f32) (b : Fin 256) :
    k0_pay4 (F := Ideal) x2 x4 x7 (ix2 b 0) = ∑ d, x2 (ix2 b d) * x4 (ix2 d 0) + x7 (ix2 0 0) := by
  pointwise [k0_pay4]

/-- The running maximum starts from minus infinity, -/
theorem pay1_at (b : Fin 256) : k0_pay1 (F := Ideal) (ix2 b 0) = ⊥ := by
  pointwise [k0_pay1]
  exact named_mask

/-- the sum from zero, -/
theorem pay2_at (b : Fin 256) : k0_pay2 (F := Ideal) (ix2 b 0) = 0 := by
  pointwise [k0_pay2]

/-- and so does the weighted sum. -/
theorem pay3_at (b : Fin 256) (u : Fin 128) : k0_pay3 (F := Ideal) (ix2 b u) = 0 := by
  pointwise [k0_pay3]

end Cert.Proof.Value

end
-- ==== Proof.Value.KernelVal.lean ====
/-
  The kernel's two results, read at an index.
-/
module

public import proofs.«01_k».proof.Proof.Value.Entry
public import proofs.«01_k».proof.Proof.Value.Pay

@[expose] public section

set_option maxRecDepth 16384

noncomputable section

namespace Cert.Proof.Value

open Cert.KernelIdeal Cert.KernelIdeal.Gen Cert.Proof.KI

open Idealize.ShloMosaic
open Idealize.ShloMosaic.Pointwise
open Idealize.ShloMosaic.StableHlo (after)
open scoped BigOperators

variable (m : (ℓ : Loc nD τ sig) → Buf (Elt Ideal) ℓ) (d : Dev nD)

/-- A node's score. -/
def zN (i : Fin 100000) : EReal := ∑ e : Fin 128, a5 m d (ix2 (lo e) 0) * a1 m d (ix2 i e)
/-- A graph's score. -/
def sB (b : Fin 256) : EReal := ∑ e : Fin 128, a0 m d (ix2 b e) * a5 m d (ix2 (up e) 0) + a6 m d (ix1 0)
/-- A node's feature. -/
def attN (i : Fin 100000) (u : Fin 128) : EReal := leaky (∑ e : Fin 128, a1 m d (ix2 i e) * a3 m d (ix2 e u) + a4 m d (ix1 u))

/-- A block's scores are its nodes'. -/
theorem zb_node (n : Fin 10) (k : Fin 10000) : zb (iblk (EV m) d 0 (pt n)) (iblk (EV m) d 5 (pt n)) k = zN m d (node n k) := by
  unfold zb zN
  exact Finset.sum_congr rfl fun e _ => congrArg₂ (· * ·) (blk5 m d (pt n) e) (blk0 m d n k e)

/-- A block's features are its nodes'. -/
theorem feat_node (n : Fin 10) (k : Fin 10000) (u : Fin 128) :
    leaky (feat (iblk (EV m) d 0 (pt n)) (iblk (EV m) d 3 (pt n)) (iblk (EV m) d 6 (pt n)) k u) = attN m d (node n k) u := by
  unfold feat attN
  exact congrArg leaky (congrArg₂ (· + ·) (Finset.sum_congr rfl fun e _ => congrArg₂ (· * ·) (blk0 m d n k e) (blk3 m d (pt n) e u)) (blk6 m d (pt n) u))

/-- The graphs' scores. -/
theorem scores_at (b : Fin 256) : scores (EV m) d (ix2 b 0) = sB m d b := by
  unfold scores
  rw [pay4_at]
  unfold sB
  exact congrArg₂ (· + ·) (Finset.sum_congr rfl fun e _ => congrArg₂ (· * ·) (blk2 m d pt0 b e) (blk4 m d pt0 e)) (blk7 m d pt0)

/-- A node is the one of its block and its place there. -/
theorem node_div (i : Fin 100000) : node ⟨i.val / 10000, by omega⟩ ⟨i.val % 10000, by omega⟩ = i := Fin.ext (by
  show 10000 * (i.val / 10000) + i.val % 10000 = i.val; omega)

/-- The scores' array at a node. -/
theorem G8_at (i : Fin 100000) :
    (G8 (EV m) d : Vec Ideal S10x1x10000 .f32) (ix3 ⟨i.val / 10000, by omega⟩ 0 ⟨i.val % 10000, by omega⟩) = zN m d i := by
  have e : blkIx ⟨i.val % 10000, by omega⟩ = ix3 0 0 ⟨i.val % 10000, by omega⟩ := by
    funext a
    match a with
    | ⟨0, _⟩ => rfl
    | ⟨1, _⟩ => rfl
    | ⟨2, _⟩ => rfl
  show k0_pay7 (F := Ideal) (iblk (EV m) d 0 (pt ⟨i.val / 10000, by omega⟩)) (iblk (EV m) d 5 (pt ⟨i.val / 10000, by omega⟩)) (blkIx ⟨i.val % 10000, by omega⟩) = _
  rw [e, pay7_at, zb_node, node_div]

/-- The scores, flat, -/
theorem W3_v9 : W3 m d (Proc.devRef .tc main_v9) = shapeCast S100000 (G8 (EV m) d : Vec Ideal S10x1x10000 .f32) shapeCasts_S10x1x10000_S100000 := by
  rw [← left_v8_0 (W1 m) d]
  unfold W3 ops2
  after_results_simp
  rfl
/-- and the graphs' scores, flat, -/
theorem W3_v10 : W3 m d (Proc.devRef .tc main_v10) = shapeCast S256 (G10 (EV m) d : Vec Ideal S256x1 .f32) shapeCasts_S256x1_S256 := by
  rw [← left_v8_2 (W1 m) d]
  unfold W3 ops2
  after_results_simp
  rfl
/-- the second result, as a column, -/
theorem W5_v12 : W5 m d (Proc.devRef .tc main_v12) = shapeCast S100000x1 (alignOf (vz m d) (vi m d) (vp m d) : Vec Ideal S100000 .f32) shapeCasts_S100000_S100000x1 := by
  rw [← W4_v11]
  unfold W5 ops3
  after_results_simp
  rfl
/-- the first, as the call leaves it. -/
theorem W5_v8_1 : W5 m d (Proc.devRef .tc main_v8_1) = G9 (EV m) d :=
  (W5_of m d (by decide)).trans ((W4_ne m d _ (by decide)).trans ((W3_of m d (by decide)).trans (left_v8_1 (W1 m) d)))

/-- A flat array of blocks at an index. -/
theorem cast_z (v : Vec Ideal S10x1x10000 .f32) (i : Fin 100000) :
    shapeCast S100000 v shapeCasts_S10x1x10000_S100000 (ix1 i) = v (ix3 ⟨i.val / 10000, by omega⟩ 0 ⟨i.val % 10000, by omega⟩) := by
  pointwise
/-- A flat column at an index. -/
theorem cast_p (v : Vec Ideal S256x1 .f32) (b : Fin 256) : shapeCast S256 v shapeCasts_S256x1_S256 (ix1 b) = v (ix2 b 0) := by
  pointwise
/-- A column of a flat array at an index. -/
theorem cast_o (v : Vec Ideal S100000 .f32) (i : Fin 100000) : shapeCast S100000x1 v shapeCasts_S100000_S100000x1 (ix2 i 0) = v (ix1 i) := by
  pointwise

/-- The gather's scores. -/
theorem vz_at (i : Fin 100000) : vz m d (ix1 i) = zN m d i := by
  unfold vz
  rw [W3_v9]
  exact (cast_z _ i).trans (G8_at m d i)

/-- The gather's table. -/
theorem vp_at (b : Fin 256) : vp m d (ix1 b) = sB m d b := by
  unfold vp
  rw [W3_v10]
  exact (cast_p _ b).trans (scores_at m d b)

/-- The graph of a node. -/
def gr (hids : ∀ i, (a2 m d (ix1 i)).toNat < 256) (i : Fin 100000) : Fin 256 := ⟨(a2 m d (ix1 i)).toNat, hids i⟩

/-- The second result: a node's score plus its graph's. -/
theorem align_at (hids : ∀ i, (a2 m d (ix1 i)).toNat < 256) (i : Fin 100000) :
    (W5 m d (Proc.devRef .tc main_v12) : Vec Ideal S100000x1 .f32) (ix2 i 0) = zN m d i + sB m d (gr m d hids i) := by
  rw [W5_v12]
  refine (cast_o _ i).trans ?_
  unfold alignOf
  rw [vz_at, vi_eq]
  refine congrArg₂ (· + ·) rfl (Eq.trans (congrArg _ ?_) (vp_at m d (gr m d hids i)))
  funext a
  match a with
  | ⟨0, _⟩ => exact Fin.ext (Nat.mod_eq_of_lt (hids i))

/-! ## The first result -/

/-- The running values keep the recurrence's invariant. -/
theorem acc_inv (hids : ∀ i, (a2 m d (ix1 i)).toNat < 256) (zr : Fin 100000 → ℝ) (hz : ∀ i, zN m d i = (zr i : EReal)) (b : Fin 256) (u : Fin 128) :
    ∀ n : ℕ, n ≤ 10 →
      Inv (N := 10) (n₀ := 10000) (fun n k => gr m d hids (node n k) = b) (fun n k => zr (node n k)) (fun _ _ => 1) n ((acc (EV m) d n).1 (ix2 b 0)) ((acc (EV m) d n).2.1 (ix2 b 0))
      ∧ Inv (N := 10) (n₀ := 10000) (fun n k => gr m d hids (node n k) = b) (fun n k => zr (node n k)) (fun n k => attN m d (node n k) u) n ((acc (EV m) d n).1 (ix2 b 0)) ((acc (EV m) d n).2.2 (ix2 b u)) := by
  intro n
  induction n with
  | zero =>
    intro _
    exact ⟨⟨fun _ => ⟨pay1_at b, pay2_at b⟩, fun h => absurd rfl h⟩, ⟨fun _ => ⟨pay1_at b, pay3_at b u⟩, fun h => absurd rfl h⟩⟩
  | succ n ih =>
    intro hn
    obtain ⟨hS, hA⟩ := ih (by omega)
    have hlt : n < 10 := hn
    have hsucc := acc_succ (EV m) d (pt ⟨n, hlt⟩)
    have hb : ∀ k, ((iblk (EV m) d 1 (pt ⟨n, hlt⟩) : Vec Ideal S1x1x10000 .i32) (ix3 0 0 k)) = a2 m d (ix1 (node ⟨n, hlt⟩ k)) := fun k => blk1 m d ⟨n, hlt⟩ k
    have hb' : ∀ k, ((iblk (EV m) d 1 (pt ⟨n, hlt⟩) : Vec Ideal S1x1x10000 .i32) (ix3 0 0 k)).toNat < 256 := fun k => by rw [hb]; exact hids _
    have hmb : mb (iblk (EV m) d 0 (pt ⟨n, hlt⟩)) (iblk (EV m) d 5 (pt ⟨n, hlt⟩)) = Finset.univ.fold max (⊥ : EReal) fun k => (zr (node ⟨n, hlt⟩ k) : EReal) := by
      unfold mb
      congr 1
      funext k
      rw [zb_node, hz]
    have hp : ∀ k, ((a2 m d (ix1 (node ⟨n, hlt⟩ k))).toNat = b.val) ↔ gr m d hids (node ⟨n, hlt⟩ k) = b := fun k => ⟨fun h => Fin.ext h, fun h => congrArg Fin.val h⟩
    rw [show n + 1 = (pt ⟨n, hlt⟩).val + 1 from rfl, hsucc]
    dsimp only
    rw [stepM_at, stepS_at _ _ _ _ _ _ hb', stepA_at _ _ _ _ _ _ _ _ _ hb']
    refine ⟨hS.step (by decide) ⟨n, hlt⟩ _ hmb _ ?_, hA.step (by decide) ⟨n, hlt⟩ _ hmb _ ?_⟩
    · refine Finset.sum_congr rfl fun k _ => ?_
      rw [hb, zb_node, hz]
      simp only [hp]
    · refine Finset.sum_congr rfl fun k _ => ?_
      rw [hb, zb_node, hz, feat_node]
      simp only [hp]

/-- A sum over blocks and places is a sum over nodes. -/
theorem sum_node (f : Fin 100000 → EReal) : ∑ n : Fin 10, ∑ k : Fin 10000, f (node n k) = ∑ i, f i := by
  rw [← Fintype.sum_prod_type']
  refine Fintype.sum_equiv (finProdFinEquiv (m := 10) (n := 10000)) _ _ fun x => congrArg f (Fin.ext ?_)
  show 10000 * x.1.val + x.2.val = x.2.val + 10000 * x.1.val
  omega

/-- The first result: the finish of the weighted mean of the features, the weights taken against one node's score. -/
theorem mm_at (hids : ∀ i, (a2 m d (ix1 i)).toNat < 256) (zr : Fin 100000 → ℝ) (hz : ∀ i, zN m d i = (zr i : EReal)) (b : Fin 256) (u : Fin 128) :
    ∃ j : Fin 100000, (W5 m d (Proc.devRef .tc main_v8_1) : Vec Ideal S256x128 .f32) (ix2 b u) =
      elu (Ideal.div (∑ i, (wt (gr m d hids i = b) (zr i) (zr j) : EReal) * attN m d i u) (max (∑ i, (wt (gr m d hids i = b) (zr i) (zr j) : EReal)) eps)) := by
  obtain ⟨hS, hA⟩ := acc_inv m d hids zr hz b u 10 le_rfl
  obtain ⟨j, k, hM, hS⟩ := hS.pos (by decide)
  obtain ⟨j', k', hM', hA⟩ := hA.pos (by decide)
  have e : zr (node j' k') = zr (node j k) := EReal.coe_injective (hM'.symm.trans hM)
  have hf : (Finset.univ.filter fun j' : Fin 10 => j'.val < 10) = Finset.univ := Finset.filter_true_of_mem fun j _ => j.isLt
  refine ⟨node j k, ?_⟩
  rw [W5_v8_1]
  unfold G9
  rw [pay18_at]
  rw [hS, hA, e, hf]
  simp only [mul_one]
  rw [sum_node fun i => (wt (gr m d hids i = b) (zr i) (zr (node j k)) : EReal),
    sum_node fun i => (wt (gr m d hids i = b) (zr i) (zr (node j k)) : EReal) * attN m d i u]

end Cert.Proof.Value

end
-- ==== Proof.Claims.Algebraic.lean ====
/-
  The kernel and the reference compute the same two results over the extended reals.
-/
module

public import proofs.«01_k».proof.Defs
public import proofs.«01_k».proof.Proof.Claims.Frames
public import proofs.«01_k».proof.Proof.Value.KernelVal
public import proofs.«01_k».proof.Proof.Value.Ref
public import proofs.«01_k».proof.Proof.Value.Tame

@[expose] public section

set_option maxRecDepth 16384

noncomputable section

namespace Cert.Proof

open Idealize.ShloMosaic Idealize.SL.Sem Idealize.ShloMosaic.TcCoe Idealize.ShloMosaic.Pointwise
open Cert.Proof.Value Cert.Proof.KI

section Equal

variable (m : (ℓ : Loc Cert.KernelIdeal.nD Cert.KernelIdeal.τ Cert.KernelIdeal.sig) → Buf (Elt Ideal) ℓ) (d : Dev Cert.KernelIdeal.nD)
  (hids : ∀ i, (a2 m d (ix1 i)).toNat < 256) (zr : Fin 100000 → ℝ) (sr : Fin 256 → ℝ)
  (hz : ∀ i, ∑ e : Fin 128, a1 m d (ix2 i e) * a5 m d (ix2 ⟨128 + e.val, by omega⟩ 0) = (zr i : EReal))
  (hs : ∀ b, ∑ e : Fin 128, a0 m d (ix2 b e) * a5 m d (ix2 ⟨e.val, by omega⟩ 0) + a6 m d (ix1 0) = (sr b : EReal))
  (hfl : ∀ i j, eps ≤ ((∑ k, wt (Value.gr m d hids k = Value.gr m d hids i) (zr k) (zr j) : ℝ) : EReal))

/-- A graph's score, with the halves of the weights in numbers, -/
theorem sB_eq (b : Fin 256) : sB m d b = ∑ e : Fin 128, a0 m d (ix2 b e) * a5 m d (ix2 ⟨e.val, by omega⟩ 0) + a6 m d (ix1 0) := rfl

/-- and a node's. -/
theorem zN_eq (i : Fin 100000) : zN m d i = ∑ e : Fin 128, a1 m d (ix2 i e) * a5 m d (ix2 ⟨128 + e.val, by omega⟩ 0) :=
  Finset.sum_congr rfl fun _ _ => mul_comm _ _

/-- The reference's score is the kernel's. -/
theorem ref_align (i : Fin 100000) :
    Ref.align (a0 m d) (a1 m d) (a2 m d) (a5 m d) (a6 m d) (ix2 i 0) = zN m d i + sB m d (Value.gr m d hids i) := by
  refine (Ref.align_at _ _ _ _ _ hids i).trans ?_
  rw [zN_eq, sB_eq, add_right_comm]
  exact add_comm _ _

include hids

/-- The second result. -/
theorem align_eq : (W5 m d (Proc.devRef .tc Cert.KernelIdeal.main_v12) : Vec Ideal Cert.KernelIdeal.S100000x1 .f32) =
    Ref.align (a0 m d) (a1 m d) (a2 m d) (a5 m d) (a6 m d) := by
  funext j
  obtain ⟨i, rfl⟩ : ∃ i : Fin 100000, j = ix2 i 0 := ⟨j 0, by
    funext a
    match a with
    | ⟨0, _⟩ => rfl
    | ⟨1, _⟩ => exact Subsingleton.elim (α := Fin 1) _ _⟩
  exact (Value.align_at m d hids i).trans (ref_align m d hids i).symm

include hz hs hfl

/-- The first result. -/
theorem mm_eq : (W5 m d (Proc.devRef .tc Cert.KernelIdeal.main_v8_1) : Vec Ideal Cert.KernelIdeal.S256x128 .f32) =
    Ref.mm (a0 m d) (a1 m d) (a2 m d) (a3 m d) (a4 m d) (a5 m d) (a6 m d) := by
  funext j
  obtain ⟨b, u, rfl⟩ : ∃ (b : Fin 256) (u : Fin 128), j = ix2 b u := ⟨j 0, j 1, by
    funext a
    match a with
    | ⟨0, _⟩ => rfl
    | ⟨1, _⟩ => rfl⟩
  have hzN : ∀ i, zN m d i = (zr i : EReal) := fun i => (zN_eq m d i).trans (hz i)
  obtain ⟨k, hk⟩ := mm_at m d hids zr hzN b u
  have hy : ∀ i, Ref.align (a0 m d) (a1 m d) (a2 m d) (a5 m d) (a6 m d) (ix2 i 0) = al (Ref.gr (a2 m d) hids) zr sr i := fun i => by
    refine (ref_align m d hids i).trans ?_
    rw [hzN, sB_eq, hs]
    rfl
  refine hk.trans ((congrArg elu ?_).trans (Ref.mm_at (a0 m d) (a1 m d) (a2 m d) (a3 m d) (a4 m d) (a5 m d) (a6 m d) hids zr sr hy b u).symm)
  exact softmax_eq (Value.gr m d hids) zr sr (fun i => attN m d i u) (zr k) (fun i => hfl i k) b

end Equal

/-- The graph numbers are in range where the precondition holds. -/
theorem ids_of_tame (m : (ℓ : Loc Cert.KernelIdeal.nD Cert.KernelIdeal.τ Cert.KernelIdeal.sig) → Buf (Elt Ideal) ℓ) (h : Cert.Pre_KernelIdeal_tame m)
    (d : Dev Cert.KernelIdeal.nD) (j : Cert.KernelIdeal.S100000.Idx) : (a2 m d j).toNat < 256 := by
  obtain ⟨i, rfl⟩ : ∃ i : Fin 100000, j = ix1 i := ⟨j 0, by
    funext a
    match a with
    | ⟨0, _⟩ => rfl⟩
  exact (Tame.of_pre _ _ _ _ _ _ _ (h d)).choose i

/-- The kernel over the extended reals runs, its arguments unchanged, every counter back at zero, under the value claim's precondition too. -/
theorem frame_pi_tame : Cert.quiescent_KernelIdeal_pre_tame := fun m ρ hpre =>
  (θ_run Cert.KernelIdeal.defs _ _).mono (fun _ h => ⟨fun c => (h.1 c).2.2, h.2⟩)
    (KI.run_claim (F := Ideal) m ρ fun d j => ids_of_tame m hpre d j)

/-- So does the reference. -/
theorem frame_ri_tame : Cert.quiescent_ReferenceIdeal_pre_tame := fun m ρ _ => frame_ri m ρ trivial

section Programs

open Cert.ReferenceIdeal

variable (m : (ℓ : Loc Cert.ReferenceIdeal.nD Cert.ReferenceIdeal.τ Cert.ReferenceIdeal.sig) → Buf (Elt Ideal) ℓ) (g : Dev Cert.ReferenceIdeal.nD → PrngReg)

/-- The reference runs: its two results are the stages of its arguments, its arguments unchanged. -/
theorem ref_run : θ_run (defs (F := Ideal)) (onTc (τ := τ) (main (F := Ideal))) ⟨m, fun _ => 0, g⟩ (fun r => ∀ c : Dev nD,
    r.2.mem ((c.tc : Thread nD τ).loc main_v43) = Ref.mm (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
    ∧ r.2.mem ((c.tc : Thread nD τ).loc main_v14) = Ref.align (m ((c.tc : Thread nD τ).loc main_arg0)) (m ((c.tc : Thread nD τ).loc main_arg1)) (m ((c.tc : Thread nD τ).loc main_arg2))
      (m ((c.tc : Thread nD τ).loc main_arg5)) (m ((c.tc : Thread nD τ).loc main_arg6))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  (θ_run defs _ _).mono (fun _ h c => ⟨(h c).1.trans (Ref.res_eq m c), (h c).2.1, (h c).2.2⟩) (Cert.ReferenceIdeal.Value.run (F := Ideal) m g)

end Programs

/-- The kernel and the reference leave the same two results, their arguments unchanged. -/
theorem algebraic : Cert.algebraic_KernelIdeal_ReferenceIdeal_pre_tame := fun m g m' g' hpre hargs =>
  ⟨fun c => W5 m c (Proc.devRef .tc Cert.KernelIdeal.main_v8_1), fun c => W5 m c (Proc.devRef .tc Cert.KernelIdeal.main_v12),
    (θ_run Cert.KernelIdeal.defs _ _).mono (fun _ h => h.1) (KI.run_claim (F := Ideal) m g fun d j => ids_of_tame m hpre d j),
    (θ_run Cert.ReferenceIdeal.defs _ _).mono (fun r h c => by
      obtain ⟨e0, e1, e2, e3, e4, e5, e6⟩ := hargs c
      obtain ⟨hids, ⟨zr, hz, hfl⟩, sr, hs⟩ := Tame.of_pre _ _ _ _ _ _ _ (hpre c)
      refine ⟨(h c).1.trans ?_, (h c).2.1.trans ?_, (h c).2.2⟩
      · rw [e0, e1, e2, e3, e4, e5, e6]
        exact (mm_eq m c hids zr sr hz hs hfl).symm
      · rw [e0, e1, e2, e5, e6]
        exact (align_eq m c hids).symm) (ref_run m' g')⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_ids_in_range
public import proofs.«01_k».proof.Proof.Gen.Pre_tame
public import proofs.«01_k».proof.Proof.Claims.Frames
public import proofs.«01_k».proof.Proof.Claims.Algebraic

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_ids_in_range.Gen.facts,
    Cert.Pre_tame.Gen.facts, frame_p, frame_pi, frame_pi_tame, frame_ri, frame_ri_tame, preserves, algebraic⟩

end Cert.Proof

end
